-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_in [hPre_finite_logits_in : Cert.Pre_finite_logits_in.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_in [hPre_finite_logits_in : Cert.Pre_finite_logits_in.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_logits_in [hKernelIdeal : Cert.KernelIdeal.Facts] [hPre_finite_logits_in : Cert.Pre_finite_logits_in.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_in m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_logits_in [hReferenceIdeal : Cert.ReferenceIdeal.Facts] [hPre_finite_logits_in : Cert.Pre_finite_logits_in.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_in m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_logits_in [hKernelIdeal : Cert.KernelIdeal.Facts] [hReferenceIdeal : Cert.ReferenceIdeal.Facts] [hPre_finite_logits_in : Cert.Pre_finite_logits_in.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_in m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_logits_in : Cert.Pre_finite_logits_in.Facts),
    quiescent_Kernel (hKernel := hKernel)
    ∧ quiescent_KernelIdeal (hKernelIdeal := hKernelIdeal)
    ∧ quiescent_KernelIdeal_pre_finite_logits_in (hKernelIdeal := hKernelIdeal) (hPre_finite_logits_in := hPre_finite_logits_in)
    ∧ quiescent_ReferenceIdeal (hReferenceIdeal := hReferenceIdeal)
    ∧ quiescent_ReferenceIdeal_pre_finite_logits_in (hReferenceIdeal := hReferenceIdeal) (hPre_finite_logits_in := hPre_finite_logits_in)
    ∧ preserves_Kernel_KernelIdeal
    ∧ algebraic_KernelIdeal_ReferenceIdeal_pre_finite_logits_in (hKernelIdeal := hKernelIdeal) (hReferenceIdeal := hReferenceIdeal) (hPre_finite_logits_in := hPre_finite_logits_in)
-- ==== Pre_finite_logits_in.lean ====
abbrev S1x2048x1024 : Shape := ⟨3, ![1, 2048, 1024]⟩
abbrev S1024x8 : Shape := ⟨2, ![1024, 8]⟩
abbrev S8x1024x512 : Shape := ⟨3, ![8, 1024, 512]⟩
abbrev S8x512x1024 : Shape := ⟨3, ![8, 512, 1024]⟩
abbrev S1024x512 : Shape := ⟨2, ![1024, 512]⟩
abbrev S512x1024 : Shape := ⟨2, ![512, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x1024x512 .f32) (main_arg3 : FVec F S8x1024x512 .f32) (main_arg4 : FVec F S8x512x1024 .f32) (main_arg5 : FVec F S1024x512 .f32) (main_arg6 : FVec F S1024x512 .f32) (main_arg7 : FVec F S512x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8x1024x512 : Shape := ⟨3, ![8, 1024, 512]⟩
abbrev S8x512x1024 : Shape := ⟨3, ![8, 512, 1024]⟩
abbrev S1024x512 : Shape := ⟨2, ![1024, 512]⟩
abbrev S512x1024 : Shape := ⟨2, ![512, 1024]⟩
abbrev S2048x1024 : Shape := ⟨2, ![2048, 1024]⟩
abbrev S1x1024x512 : Shape := ⟨3, ![1, 1024, 512]⟩
abbrev S9x1024x512 : Shape := ⟨3, ![9, 1024, 512]⟩
abbrev S1x512x1024 : Shape := ⟨3, ![1, 512, 1024]⟩
abbrev S9x512x1024 : Shape := ⟨3, ![9, 512, 1024]⟩
abbrev S256x1024 : Shape := ⟨2, ![256, 1024]⟩
abbrev S256x16 : Shape := ⟨2, ![256, 16]⟩
abbrev S256x8 : Shape := ⟨2, ![256, 8]⟩
abbrev S256 : Shape := ⟨1, ![256]⟩
abbrev S256x1 : Shape := ⟨2, ![256, 1]⟩
abbrev S256x512 : Shape := ⟨2, ![256, 512]⟩

abbrev nBuf : Space → Nat
  | .hbm => 17
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x512, .f32⟩
  | .hbm, ⟨3, _⟩ => ⟨S8x1024x512, .f32⟩
  | .hbm, ⟨4, _⟩ => ⟨S8x512x1024, .f32⟩
  | .hbm, ⟨5, _⟩ => ⟨S1024x512, .f32⟩
  | .hbm, ⟨6, _⟩ => ⟨S1024x512, .f32⟩
  | .hbm, ⟨7, _⟩ => ⟨S512x1024, .f32⟩
  | .hbm, ⟨8, _⟩ => ⟨S2048x1024, .f32⟩
  | .hbm, ⟨9, _⟩ => ⟨S1x1024x512, .f32⟩
  | .hbm, ⟨10, _⟩ => ⟨S9x1024x512, .f32⟩
  | .hbm, ⟨11, _⟩ => ⟨S1x1024x512, .f32⟩
  | .hbm, ⟨12, _⟩ => ⟨S9x1024x512, .f32⟩
  | .hbm, ⟨13, _⟩ => ⟨S1x512x1024, .f32⟩
  | .hbm, ⟨14, _⟩ => ⟨S9x512x1024, .f32⟩
  | .hbm, ⟨15, _⟩ => ⟨S2048x1024, .f32⟩
  | .hbm, ⟨16, _⟩ => ⟨S1x2048x1024, .f32⟩
  | .local _ .vmem, ⟨0, _⟩ => ⟨S1024x8, .f32⟩
  | .local _ .vmem, ⟨1, _⟩ => ⟨S256x1024, .f32⟩
  | .local _ .vmem, ⟨2, _⟩ => ⟨S256x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S256x1024, .f32⟩
  | .local _ .vmem, ⟨10, _⟩ => ⟨S256x1024, .f32⟩
  | .local _ .vmem, ⟨11, _⟩ => ⟨S256x16, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c0_i32_17 : BitVec 32 := 0#32
  let v27 : BitVec 1 := Scalar.cmpi .eq arg1 c0_i32_17
  let v28 : BitVec 32 := Scalar.extui v27
  let c0_i32_18 : BitVec 32 := 0#32
  let v29 : BitVec 1 := Scalar.cmpi .ne v28 c0_i32_18
  v29

def k0_cond3 (i : grid0.Coords) : BitVec 1 :=
  let arg1 : BitVec 32 := BitVec.ofNat 32 (i 1).val
  let c0_i32_19 : BitVec 32 := 0#32
  let v30 : BitVec 1 := Scalar.cmpi .sgt arg1 c0_i32_19
  let v31 : BitVec 32 := Scalar.extui v30
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S1x2048x1024 : Shape := ⟨3, ![1, 2048, 1024]⟩
abbrev S1024x8 : Shape := ⟨2, ![1024, 8]⟩
abbrev S8x1024x512 : Shape := ⟨3, ![8, 1024, 512]⟩
abbrev S8x512x1024 : Shape := ⟨3, ![8, 512, 1024]⟩
abbrev S1024x512 : Shape := ⟨2, ![1024, 512]⟩
abbrev S512x1024 : Shape := ⟨2, ![512, 1024]⟩
abbrev S1x2048x512 : Shape := ⟨3, ![1, 2048, 512]⟩
abbrev S_ : Shape := ⟨0, ![]⟩
abbrev S1x2048x8 : Shape := ⟨3, ![1, 2048, 8]⟩
abbrev S1x2048 : Shape := ⟨2, ![1, 2048]⟩
abbrev S1x2048x1 : Shape := ⟨3, ![1, 2048, 1]⟩
abbrev S1x2048x2 : Shape := ⟨3, ![1, 2048, 2]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩
abbrev S2048x1024 : Shape := ⟨2, ![2048, 1024]⟩
abbrev S2048x8 : Shape := ⟨2, ![2048, 8]⟩
abbrev S1x1024x512 : Shape := ⟨3, ![1, 1024, 512]⟩
abbrev S2048x512 : Shape := ⟨2, ![2048, 512]⟩
abbrev S1x512x1024 : Shape := ⟨3, ![1, 512, 1024]⟩
abbrev S2048x1 : Shape := ⟨2, ![2048, 1]⟩

abbrev nBuf : Space → Nat
  | .hbm => 239
  | .vmem => 0
  | .smem => 0
  | _ => 0

abbrev hbmTy0_0 (i : Nat) : BufTy := match i % 128 with
  | 0 => ⟨S1x2048x1024, .f32⟩
  | 1 => ⟨S1024x8, .f32⟩
  | 2 => ⟨S8x1024x512, .f32⟩
  | 3 => ⟨S8x1024x512, .f32⟩
  | 4 => ⟨S8x512x1024, .f32⟩
  | 5 => ⟨S1024x512, .f32⟩
  | 6 => ⟨S1024x512, .f32⟩
  | 7 => ⟨S512x1024, .f32⟩
  | 8 => ⟨S1x2048x512, .f32⟩
  | 9 => ⟨S1x2048x512, .f32⟩
  | 10 => ⟨S1x2048x512, .f32⟩
  | 11 => ⟨S_, .f32⟩
  | 12 => ⟨S1x2048x512, .f32⟩
  | 13 => ⟨S1x2048x512, .f32⟩
  | 14 => ⟨S_, .f32⟩
  | 15 => ⟨S1x2048x512, .f32⟩
  | 16 => ⟨S1x2048x512, .f32⟩
  | 17 => ⟨S1x2048x512, .f32⟩
  | 18 => ⟨S1x2048x512, .f32⟩
  | 19 => ⟨S1x2048x8, .f32⟩
  | 20 => ⟨S_, .f32⟩
  | 21 => ⟨S1x2048, .f32⟩
  | 22 => ⟨S_, .f32⟩
  | 23 => ⟨S1x2048, .f32⟩
  | 24 => ⟨S1x2048, .f32⟩
  | 25 => ⟨S1x2048x1, .f32⟩
  | 26 => ⟨S1x2048x8, .f32⟩
  | 27 => ⟨S1x2048x8, .f32⟩
  | 28 => ⟨S1x2048x8, .f32⟩
  | 29 => ⟨S_, .f32⟩
  | 30 => ⟨S1x2048, .f32⟩
  | 31 => ⟨S1x2048x1, .f32⟩
  | 32 => ⟨S1x2048x8, .f32⟩
  | 33 => ⟨S1x2048x8, .f32⟩
  | 34 => ⟨S1x2048x2, .f32⟩
  | 35 => ⟨S1x2048x2, .i32⟩
  | 36 => ⟨S1x2048x512, .f32⟩
  | 37 => ⟨S1x2048x1024, .f32⟩
  | 38 => ⟨S1x2048x2x1, .i32⟩
  | 39 => ⟨S1x1x1x8, .i32⟩
  | 40 => ⟨S1x2048x2x8, .i32⟩
  | 41 => ⟨S1x2048x2x8, .i32⟩
  | 42 => ⟨S1x2048x2x8, .i1⟩
  | 43 => ⟨S1x2048x2x8, .f32⟩
  | 44 => ⟨S1x2048x2x1, .f32⟩
  | 45 => ⟨S1x2048x2x8, .f32⟩
  | 46 => ⟨S1x2048x2x8, .f32⟩
  | 47 => ⟨S_, .f32⟩
  | 48 => ⟨S1x2048x8, .f32⟩
  | 49 => ⟨S2048x1024, .f32⟩
  | 50 => ⟨S2048x8, .f32⟩
  | 51 => ⟨S_, .f32⟩
  | 52 => ⟨S2048x1024, .f32⟩
  | 53 => ⟨S1x1024x512, .f32⟩
  | 54 => ⟨S1024x512, .f32⟩
  | 55 => ⟨S2048x512, .f32⟩
  | 56 => ⟨S1x1024x512, .f32⟩
  | 57 => ⟨S1024x512, .f32⟩
  | 58 => ⟨S2048x512, .f32⟩
  | 59 => ⟨S2048x512, .f32⟩
  | 60 => ⟨S2048x512, .f32⟩
  | 61 => ⟨S_, .f32⟩
  | 62 => ⟨S2048x512, .f32⟩
  | 63 => ⟨S2048x512, .f32⟩
  | 64 => ⟨S_, .f32⟩
  | 65 => ⟨S2048x512, .f32⟩
  | 66 => ⟨S2048x512, .f32⟩
  | 67 => ⟨S2048x512, .f32⟩
  | 68 => ⟨S2048x512, .f32⟩
  | 69 => ⟨S1x512x1024, .f32⟩
  | 70 => ⟨S512x1024, .f32⟩
  | 71 => ⟨S2048x1024, .f32⟩
  | 72 => ⟨S2048x1, .f32⟩
  | 73 => ⟨S2048x1024, .f32⟩
  | 74 => ⟨S2048x1024, .f32⟩
  | 75 => ⟨S2048x1024, .f32⟩
  | 76 => ⟨S1x1024x512, .f32⟩
  | 77 => ⟨S1024x512, .f32⟩
  | 78 => ⟨S2048x512, .f32⟩
  | 79 => ⟨S1x1024x512, .f32⟩
  | 80 => ⟨S1024x512, .f32⟩
  | 81 => ⟨S2048x512, .f32⟩
  | 82 => ⟨S2048x512, .f32⟩
  | 83 => ⟨S2048x512, .f32⟩
  | 84 => ⟨S_, .f32⟩
  | 85 => ⟨S2048x512, .f32⟩
  | 86 => ⟨S2048x512, .f32⟩
  | 87 => ⟨S_, .f32⟩
  | 88 => ⟨S2048x512, .f32⟩
  | 89 => ⟨S2048x512, .f32⟩
  | 90 => ⟨S2048x512, .f32⟩
  | 91 => ⟨S2048x512, .f32⟩
  | 92 => ⟨S1x512x1024, .f32⟩
  | 93 => ⟨S512x1024, .f32⟩
  | 94 => ⟨S2048x1024, .f32⟩
  | 95 => ⟨S2048x1, .f32⟩
  | 96 => ⟨S2048x1024, .f32⟩
  | 97 => ⟨S2048x1024, .f32⟩
  | 98 => ⟨S2048x1024, .f32⟩
  | 99 => ⟨S1x1024x512, .f32⟩
  | 100 => ⟨S1024x512, .f32⟩
  | 101 => ⟨S2048x512, .f32⟩
  | 102 => ⟨S1x1024x512, .f32⟩
  | 103 => ⟨S1024x512, .f32⟩
  | 104 => ⟨S2048x512, .f32⟩
  | 105 => ⟨S2048x512, .f32⟩
  | 106 => ⟨S2048x512, .f32⟩
  | 107 => ⟨S_, .f32⟩
  | 108 => ⟨S2048x512, .f32⟩
  | 109 => ⟨S2048x512, .f32⟩
  | 110 => ⟨S_, .f32⟩
  | 111 => ⟨S2048x512, .f32⟩
  | 112 => ⟨S2048x512, .f32⟩
  | 113 => ⟨S2048x512, .f32⟩
  | 114 => ⟨S2048x512, .f32⟩
  | 115 => ⟨S1x512x1024, .f32⟩
  | 116 => ⟨S512x1024, .f32⟩
  | 117 => ⟨S2048x1024, .f32⟩
  | 118 => ⟨S2048x1, .f32⟩
  | 119 => ⟨S2048x1024, .f32⟩
  | 120 => ⟨S2048x1024, .f32⟩
  | 121 => ⟨S2048x1024, .f32⟩
  | 122 => ⟨S1x1024x512, .f32⟩
  | 123 => ⟨S1024x512, .f32⟩
  | 124 => ⟨S2048x512, .f32⟩
  | 125 => ⟨S1x1024x512, .f32⟩
  | 126 => ⟨S1024x512, .f32⟩
  | 127 => ⟨S2048x512, .f32⟩
  | _ => ⟨S1x2048x1024, .f32⟩

abbrev hbmTy0_1 (i : Nat) : BufTy := match i % 128 with
  | 0 => ⟨S2048x512, .f32⟩
  | 1 => ⟨S2048x512, .f32⟩
  | 2 => ⟨S_, .f32⟩
  | 3 => ⟨S2048x512, .f32⟩
  | 4 => ⟨S2048x512, .f32⟩
  | 5 => ⟨S_, .f32⟩
  | 6 => ⟨S2048x512, .f32⟩
  | 7 => ⟨S2048x512, .f32⟩
  | 8 => ⟨S2048x512, .f32⟩
  | 9 => ⟨S2048x512, .f32⟩
  | 10 => ⟨S1x512x1024, .f32⟩
  | 11 => ⟨S512x1024, .f32⟩
  | 12 => ⟨S2048x1024, .f32⟩
  | 13 => ⟨S2048x1, .f32⟩
  | 14 => ⟨S2048x1024, .f32⟩
  | 15 => ⟨S2048x1024, .f32⟩
  | 16 => ⟨S2048x1024, .f32⟩
  | 17 => ⟨S1x1024x512, .f32⟩
  | 18 => ⟨S1024x512, .f32⟩
  | 19 => ⟨S2048x512, .f32⟩
  | 20 => ⟨S1x1024x512, .f32⟩
  | 21 => ⟨S1024x512, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x512, .f32⟩
  | 32 => ⟨S2048x512, .f32⟩
  | 33 => ⟨S1x512x1024, .f32⟩
  | 34 => ⟨S512x1024, .f32⟩
  | 35 => ⟨S2048x1024, .f32⟩
  | 36 => ⟨S2048x1, .f32⟩
  | 37 => ⟨S2048x1024, .f32⟩
  | 38 => ⟨S2048x1024, .f32⟩
  | 39 => ⟨S2048x1024, .f32⟩
  | 40 => ⟨S1x1024x512, .f32⟩
  | 41 => ⟨S1024x512, .f32⟩
  | 42 => ⟨S2048x512, .f32⟩
  | 43 => ⟨S1x1024x512, .f32⟩
  | 44 => ⟨S1024x512, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S_, .f32⟩
  | 52 => ⟨S2048x512, .f32⟩
  | 53 => ⟨S2048x512, .f32⟩
  | 54 => ⟨S2048x512, .f32⟩
  | 55 => ⟨S2048x512, .f32⟩
  | 56 => ⟨S1x512x1024, .f32⟩
  | 57 => ⟨S512x1024, .f32⟩
  | 58 => ⟨S2048x1024, .f32⟩
  | 59 => ⟨S2048x1, .f32⟩
  | 60 => ⟨S2048x1024, .f32⟩
  | 61 => ⟨S2048x1024, .f32⟩
  | 62 => ⟨S2048x1024, .f32⟩
  | 63 => ⟨S1x1024x512, .f32⟩
  | 64 => ⟨S1024x512, .f32⟩
  | 65 => ⟨S2048x512, .f32⟩
  | 66 => ⟨S1x1024x512, .f32⟩
  | 67 => ⟨S1024x512, .f32⟩
  | 68 => ⟨S2048x512, .f32⟩
  | 69 => ⟨S2048x512, .f32⟩
  | 70 => ⟨S2048x512, .f32⟩
  | 71 => ⟨S_, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S2048x512, .f32⟩
  | 78 => ⟨S2048x512, .f32⟩
  | 79 => ⟨S1x512x1024, .f32⟩
  | 80 => ⟨S512x1024, .f32⟩
  | 81 => ⟨S2048x1024, .f32⟩
  | 82 => ⟨S2048x1, .f32⟩
  | 83 => ⟨S2048x1024, .f32⟩
  | 84 => ⟨S2048x1024, .f32⟩
  | 85 => ⟨S2048x1024, .f32⟩
  | 86 => ⟨S1x1024x512, .f32⟩
  | 87 => ⟨S1024x512, .f32⟩
  | 88 => ⟨S2048x512, .f32⟩
  | 89 => ⟨S1x1024x512, .f32⟩
  | 90 => ⟨S1024x512, .f32⟩
  | 91 => ⟨S2048x512, .f32⟩
  | 92 => ⟨S2048x512, .f32⟩
  | 93 => ⟨S2048x512, .f32⟩
  | 94 => ⟨S_, .f32⟩
  | 95 => ⟨S2048x512, .f32⟩
  | 96 => ⟨S2048x512, .f32⟩
  | 97 => ⟨S_, .f32⟩
  | 98 => ⟨S2048x512, .f32⟩
  | 99 => ⟨S2048x512, .f32⟩
  | 100 => ⟨S2048x512, .f32⟩
  | 101 => ⟨S2048x512, .f32⟩
  | 102 => ⟨S1x512x1024, .f32⟩
  | 103 => ⟨S512x1024, .f32⟩
  | 104 => ⟨S2048x1024, .f32⟩
  | 105 => ⟨S2048x1, .f32⟩
  | 106 => ⟨S2048x1024, .f32⟩
  | 107 => ⟨S2048x1024, .f32⟩
  | 108 => ⟨S2048x1024, .f32⟩
  | 109 => ⟨S1x2048x1024, .f32⟩
  | 110 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_values : Ref sig .tc := ⟨.hbm, 34, rfl⟩
abbrev main_indices : Ref sig .tc := ⟨.hbm, 35, rfl⟩
abbrev main_v15 : Ref sig .tc := ⟨.hbm, 36, rfl⟩
abbrev main_v16 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩

abbrev nD : Nat := 1
abbrev τ : Topo := Topo.v7x

variable {F : FTy → Type} [FloatOps F]
-- ==== Proof.Top2.lean ====
/-
  The two greatest of a row of numbers, with the lowest position first among equals, and the three ways the two
  programs find them: by a stable descending sort, by the greatest value, and by the least position that holds it.
-/
module

public import Idealize.ShloMosaic.Lib.SortFacts
public import Idealize.ShloMosaic.Lib.Pointwise
public import Idealize.ShloMosaic.PureOps.Ideal
public import Mathlib.Data.EReal.Basic
public import Mathlib.Data.Prod.Lex

@[expose] public section

noncomputable section

namespace Cert.Top2

open Idealize.ShloMosaic

variable {n : Nat}

/-- `i` is the first position of the greatest value of `p`. -/
def FirstMax (p : Fin n → EReal) (i : Fin n) : Prop := ∀ k, p k < p i ∨ p k = p i ∧ i ≤ k

/-- The row with position `i` lowered to `-∞`. -/
def mask (p : Fin n → EReal) (i : Fin n) (k : Fin n) : EReal := if k = i then ⊥ else p k

/-- `i` and `j` are the positions of the two greatest values. -/
structure Pair (p : Fin n → EReal) (i j : Fin n) : Prop where
  first : FirstMax p i
  second : FirstMax (mask p i) j
  ne : j ≠ i

/-- What the position `e` weighs: its value if it is one of the two, zero if not. -/
def weight (p : Fin n → EReal) (i j e : Fin n) : EReal := (if e = i then p i else 0) + (if e = j then p j else 0)

theorem FirstMax.le {p : Fin n → EReal} {i : Fin n} (h : FirstMax p i) (k : Fin n) : p k ≤ p i :=
  (h k).elim le_of_lt fun e => e.1.le

theorem exists_firstMax (p : Fin n → EReal) (hn : 0 < n) : ∃ i, FirstMax p i := by
  haveI : Nonempty (Fin n) := ⟨⟨0, hn⟩⟩
  obtain ⟨i, -, hi⟩ := Finset.exists_max_image (Finset.univ : Finset (Fin n))
    (fun k => (toLex (p k, OrderDual.toDual k) : EReal ×ₗ (Fin n)ᵒᵈ)) Finset.univ_nonempty
  refine ⟨i, fun k => ?_⟩
  have := hi k (Finset.mem_univ k)
  rcases Prod.Lex.toLex_le_toLex.mp this with h | ⟨h, h'⟩
  · exact Or.inl h
  · exact Or.inr ⟨h, h'⟩

theorem FirstMax.unique {p : Fin n → EReal} {i j : Fin n} (hi : FirstMax p i) (hj : FirstMax p j) : i = j := by
  rcases hi j with h | ⟨h, h'⟩
  · exact absurd (hj.le i) (not_le.mpr h)
  · rcases hj i with g | ⟨g, g'⟩
    · exact absurd g (by rw [h]; exact lt_irrefl _)
    · exact le_antisymm h' g'

theorem mask_self (p : Fin n → EReal) (i : Fin n) : mask p i i = ⊥ := if_pos rfl

theorem mask_of_ne (p : Fin n → EReal) {i k : Fin n} (h : k ≠ i) : mask p i k = p k := if_neg h

/-- A row of at least two numbers above `-∞` has its two greatest. -/
theorem exists_pair (p : Fin n → EReal) (hn : 2 ≤ n) (hp : ∀ k, p k ≠ ⊥) : ∃ i j, Pair p i j := by
  obtain ⟨i, hi⟩ := exists_firstMax p (by omega)
  obtain ⟨j, hj⟩ := exists_firstMax (mask p i) (by omega)
  refine ⟨i, j, hi, hj, ?_⟩
  rintro rfl
  obtain ⟨k, hk⟩ : ∃ k : Fin n, k ≠ j := by
    by_cases h0 : j.val = 0
    · exact ⟨⟨1, by omega⟩, fun e => by have := congrArg Fin.val e; simp at this; omega⟩
    · exact ⟨⟨0, by omega⟩, fun e => by have := congrArg Fin.val e; simp at this; omega⟩
  have := hj.le k
  rw [mask_self, mask_of_ne p hk] at this
  exact hp k (le_bot_iff.mp this)

theorem Pair.mask_second {p : Fin n → EReal} {i j : Fin n} (h : Pair p i j) : mask p i j = p j := mask_of_ne p h.ne

/-! ### By the greatest value and the least position that holds it -/

/-- The greatest value of the row, taken from `-∞`. -/
theorem FirstMax.fold_max {p : Fin n → EReal} {i : Fin n} (h : FirstMax p i) :
    (Finset.univ : Finset (Fin n)).fold max ⊥ p = p i := by
  apply le_antisymm
  · exact (Finset.fold_max_le _).mpr ⟨bot_le, fun k _ => h.le k⟩
  · exact Finset.le_fold_max _ |>.mpr (Or.inr ⟨i, Finset.mem_univ i, le_rfl⟩)

/-- A fold of signed minima over words, read as an integer, is the fold of the integers' minima. -/
theorem toInt_fold_minsi {ι : Type} (s : Finset ι) (b : BitVec 32) (w : ι → BitVec 32) :
    (s.fold IntOp.minsi b w).toInt = s.fold min b.toInt (fun k => (w k).toInt) := by
  classical
  induction s using Finset.induction_on with
  | empty => simp
  | insert a s ha ih =>
    rw [Finset.fold_insert ha, Finset.fold_insert ha, ← ih]
    generalize s.fold IntOp.minsi b w = z
    unfold IntOp.minsi
    split <;> rename_i hh <;> simp [BitVec.slt] at hh <;> omega

/-- The least position that holds the greatest value, found over words in which every other position is `big`. -/
theorem FirstMax.fold_minsi {p : Fin n → EReal} {i : Fin n} (h : FirstMax p i) (big b : BitVec 32) (hn : n < 2 ^ 31)
    (hbig : (n : Int) ≤ big.toInt) (hb : (n : Int) ≤ b.toInt) (w : Fin n → BitVec 32)
    (hw : ∀ k, w k = if p k = p i then BitVec.ofNat 32 k.val else big) :
    (Finset.univ : Finset (Fin n)).fold IntOp.minsi b w = BitVec.ofNat 32 i.val := by
  have hint : ∀ k : Fin n, (BitVec.ofNat 32 k.val).toInt = (k.val : Int) := by
    intro k
    have := k.isLt
    rw [BitVec.toInt_eq_toNat_cond, BitVec.toNat_ofNat, Nat.mod_eq_of_lt (by omega), if_pos (by omega)]
  apply BitVec.eq_of_toInt_eq
  rw [toInt_fold_minsi, hint]
  have hi := i.isLt
  apply le_antisymm
  · refine (Finset.fold_min_le _).mpr (Or.inr ⟨i, Finset.mem_univ i, ?_⟩)
    rw [hw, if_pos rfl, hint]
  · refine (Finset.le_fold_min _).mpr ⟨by omega, fun k _ => ?_⟩
    rw [hw]
    split
    · next e =>
      rw [hint]
      rcases h k with h' | ⟨-, h'⟩
      · exact absurd e h'.ne
      · exact_mod_cast h'
    · omega

/-! ### By a stable descending sort -/

/-- The order a stable descending sort leaves: the greater first, the lower position first among equals. -/
def Before (p : Fin n → EReal) (a b : Fin n) : Prop := p b < p a ∨ p a = p b ∧ a < b

theorem pairwise_insert (p : Fin n → EReal) (a : Fin n) (l : List (Fin n)) (ha : ∀ b ∈ l, a < b)
    (hl : l.Pairwise (Before p)) : (insertBefore (fun x y => decide (p y < p x)) a l).Pairwise (Before p) := by
  induction l with
  | nil => exact List.pairwise_singleton _ _
  | cons b l ih =>
    have ⟨hb, hl'⟩ := List.pairwise_cons.mp hl
    unfold insertBefore
    by_cases hab : p a < p b
    · rw [if_pos (by simpa using hab)]
      refine List.pairwise_cons.mpr ⟨fun x hx => ?_, ih (fun x hx => ha x (List.mem_cons_of_mem _ hx)) hl'⟩
      rcases List.mem_cons.mp ((perm_insertBefore _ a l).mem_iff.mp hx) with e | hx'
      · rw [e]; exact Or.inl hab
      · exact hb x hx'
    · rw [if_neg (by simpa using hab)]
      refine List.pairwise_cons.mpr ⟨fun x hx => ?_, hl⟩
      have hba : p b ≤ p a := not_lt.mp hab
      have hxa : p x ≤ p a := by
        rcases List.mem_cons.mp hx with e | hx'
        · rw [e]; exact hba
        · exact (hb x hx').elim (fun h => h.le.trans hba) fun h => h.1.ge.trans hba
      exact hxa.lt_or_eq.imp id fun h => ⟨h.symm, ha x hx⟩

theorem pairwise_sort (p : Fin n → EReal) (l : List (Fin n)) (hl : l.Pairwise (· < ·)) :
    (stableSort (fun x y => decide (p y < p x)) l).Pairwise (Before p) := by
  induction l with
  | nil => exact List.Pairwise.nil
  | cons a l ih =>
    have ⟨ha, hl'⟩ := List.pairwise_cons.mp hl
    unfold stableSort
    exact pairwise_insert p a _ (fun b hb => ha b ((perm_stableSort _ l).mem_iff.mp hb)) (ih hl')

theorem before_of_lt (p : Fin n → EReal) {a b : Fin n} (h : a < b) :
    Before p (sortedFrom (fun x y => decide (p y < p x)) a) (sortedFrom (fun x y => decide (p y < p x)) b) := by
  have := pairwise_sort p (List.finRange n) (List.pairwise_lt_finRange n)
  exact List.pairwise_iff_get.mp this _ _ h

/-- The first position the sort puts out is the first maximum. -/
theorem firstMax_sorted (p : Fin n → EReal) (z : Fin n) (hz : z.val = 0) :
    FirstMax p (sortedFrom (fun x y => decide (p y < p x)) z) := by
  intro k
  obtain ⟨q, rfl⟩ := sortedFrom_surjective (fun x y => decide (p y < p x)) k
  by_cases hq : q = z
  · rw [hq]; exact Or.inr ⟨rfl, le_rfl⟩
  · have hlt : z < q := by
      rcases lt_or_eq_of_le (Fin.le_def.mpr (by omega : z.val ≤ q.val)) with h | h
      · exact h
      · exact absurd h.symm hq
    exact (before_of_lt p hlt).imp id fun h => ⟨h.1.symm, h.2.le⟩

/-- The first two positions the sort puts out are the two greatest, in order. -/
theorem pair_sorted (p : Fin n → EReal) (hp : ∀ k, p k ≠ ⊥) (z o : Fin n) (hz : z.val = 0) (ho : o.val = 1) :
    Pair p (sortedFrom (fun x y => decide (p y < p x)) z) (sortedFrom (fun x y => decide (p y < p x)) o) := by
  have hzo : o ≠ z := fun e => by rw [e, hz] at ho; omega
  have hne : sortedFrom (fun x y => decide (p y < p x)) o ≠ sortedFrom (fun x y => decide (p y < p x)) z :=
    fun e => hzo (sortedFrom_injective _ e)
  refine ⟨firstMax_sorted p z hz, fun k => ?_, hne⟩
  rw [mask_of_ne p hne]
  obtain ⟨q, rfl⟩ := sortedFrom_surjective (fun x y => decide (p y < p x)) k
  by_cases hq : q = z
  · subst hq
    rw [mask_self]
    exact Or.inl (bot_lt_iff_ne_bot.mpr (hp _))
  · rw [mask_of_ne p (fun e => hq (sortedFrom_injective _ e))]
    by_cases hqo : q = o
    · subst hqo; exact Or.inr ⟨rfl, le_rfl⟩
    · have hlt : o < q := by
        have h1 : q.val ≠ z.val := fun e => hq (Fin.ext e)
        have h2 : q.val ≠ o.val := fun e => hqo (Fin.ext e)
        exact Fin.lt_def.mpr (by omega)
      exact (before_of_lt p hlt).imp id fun h => ⟨h.1.symm, h.2.le⟩

theorem Pair.unique {p : Fin n → EReal} {i j i' j' : Fin n} (h : Pair p i j) (h' : Pair p i' j') : i = i' ∧ j = j' := by
  have e := h.first.unique h'.first
  subst e
  exact ⟨rfl, h.second.unique h'.second⟩

end Cert.Top2

end
-- ==== Proof.Spec.lean ====
/-
  What both programs compute, in plain mathematics over the extended reals: the router's softmax over eight experts,
  the gated feed-forward of one expert, and one entry of the output as the weighted sum of the experts plus the
  expert every token shares.
-/
module

public import proofs.«01_k».proof.Proof.Top2

@[expose] public section

noncomputable section

namespace Cert.Spec

open Idealize.ShloMosaic

/-- One token's logits: its row times the router's matrix. -/
def logit (x : Fin 1024 → EReal) (r : Fin 1024 → Fin 8 → EReal) (e : Fin 8) : EReal := ∑ k, x k * r k e

/-- The greatest of eight numbers. -/
def top (l : Fin 8 → EReal) : EReal := (Finset.univ : Finset (Fin 8)).fold max ⊥ l

/-- The exponentials a softmax sums. -/
def expo (l : Fin 8 → EReal) (e : Fin 8) : EReal := Ideal.exp (l e - top l)

/-- The softmax of eight numbers. -/
def soft (l : Fin 8 → EReal) (e : Fin 8) : EReal := Ideal.div (expo l e) (∑ k, expo l k)

/-- One token's probabilities over the experts. -/
def prob (x : Fin 1024 → EReal) (r : Fin 1024 → Fin 8 → EReal) : Fin 8 → EReal := soft (logit x r)

/-- A row times a column of an expert's matrix. -/
def proj (x : Fin 1024 → EReal) (g : Fin 1024 → Fin 512 → EReal) (q : Fin 512) : EReal := ∑ k, x k * g k q

/-- `z` times the logistic function of `z`. -/
def silu (z : EReal) : EReal := z * Ideal.div 1 (1 + Ideal.exp (-z))

/-- One entry of an expert's gated feed-forward. -/
def ffn (x : Fin 1024 → EReal) (g u : Fin 1024 → Fin 512 → EReal) (d : Fin 512 → Fin 1024 → EReal) (h : Fin 1024) :
    EReal :=
  ∑ q, silu (proj x g q) * proj x u q * d q h

/-- One entry of the output at a token, when `i` and `j` are the two experts chosen for it. -/
def moe (x : Fin 1024 → EReal) (r : Fin 1024 → Fin 8 → EReal) (g u : Fin 8 → Fin 1024 → Fin 512 → EReal)
    (d : Fin 8 → Fin 512 → Fin 1024 → EReal) (sg su : Fin 1024 → Fin 512 → EReal) (sd : Fin 512 → Fin 1024 → EReal)
    (i j : Fin 8) (h : Fin 1024) : EReal :=
  (∑ e, Top2.weight (prob x r) i j e * ffn x (g e) (u e) (d e) h) + ffn x sg su sd h

/-- The whole output as a function of the arguments' contents. -/
def result (x : (⟨3, ![1, 2048, 1024]⟩ : Shape).Idx → EReal) (r : (⟨2, ![1024, 8]⟩ : Shape).Idx → EReal)
    (g u : (⟨3, ![8, 1024, 512]⟩ : Shape).Idx → EReal) (d : (⟨3, ![8, 512, 1024]⟩ : Shape).Idx → EReal)
    (sg su : (⟨2, ![1024, 512]⟩ : Shape).Idx → EReal) (sd : (⟨2, ![512, 1024]⟩ : Shape).Idx → EReal)
    (i j : Fin 2048 → Fin 8) (y : (⟨3, ![1, 2048, 1024]⟩ : Shape).Idx) : EReal :=
  moe (fun k => x (ix3 0 (y 1) k)) (fun k e => r (ix2 k e)) (fun e k q => g (ix3 e k q)) (fun e k q => u (ix3 e k q))
    (fun e q h => d (ix3 e q h)) (fun k q => sg (ix2 k q)) (fun k q => su (ix2 k q)) (fun q h => sd (ix2 q h))
    (i (y 1)) (j (y 1)) (y 2)

end Cert.Spec

end
-- ==== Proof.Payloads.lean ====
/-
  The kernel's values at an index, over the extended reals: the softmax, the two chosen experts with their weights, and
  one expert's weighted feed-forward.
-/
module

public import proofs.«01_k».proof.Proof.Spec
public import proofs.«01_k».proof.Proof.Gen.KernelIdeal.Skeleton
public import Idealize.ShloMosaic.Lib.IdealHost

@[expose] public section

noncomputable section

namespace Cert.Payloads

open Idealize.ShloMosaic Cert.KernelIdeal Cert.KernelIdeal.Gen Cert.Spec

/-- The word of minus infinity. -/
theorem word_bot : Ideal.ofBits .f32 0xFF800000#32 = ⊥ := by simp [Ideal.ofBits, Ideal.ieee]

/-- A lane's own number, as the programs count it. -/
theorem lane {a b : Nat} (t : Fin a) (e : Fin b) :
    List.foldl (fun n q => n * ![a, b] q + (ix2 t e q).val) 0 [1] = e.val := by
  simp [ix2]

theorem ofNat_eq_iff (a b : Fin 8) : (BitVec.ofNat 32 a.val = BitVec.ofNat 32 b.val) ↔ a = b := by
  revert a b; decide

/-- A choice by the equality of two words. -/
theorem select_eq (a b : BitVec 32) (x y : EReal) :
    Scalar.select (IntOp.cmpi .eq a b) x y = if a = b then x else y := by
  by_cases h : a = b
  · simp [Scalar.select, IntOp.cmpi, h]
  · simp [Scalar.select, IntOp.cmpi, h, beq_eq_false_iff_ne.mpr h]

theorem pay2_apply (X : Vec Ideal S256x1024 .f32) (R : Vec Ideal S1024x8 .f32) (t : Fin 256) (e : Fin 8) :
    k0_pay2 X R (ix2 t e) = prob (fun k => X (ix2 t k)) (fun k e => R (ix2 k e)) e := by
  unfold k0_pay2 prob soft expo top logit
  simp only [pointwise, zero_add, word_bot, lane, OfNat.ofNat_ne_one, ↓reduceDIte]

section
variable (X : Vec Ideal S256x1024 .f32) (R : Vec Ideal S1024x8 .f32) (t : Fin 256) {i j : Fin 8}
  (hp : Top2.Pair (prob (fun k => X (ix2 t k)) (fun k e => R (ix2 k e))) i j)
include hp

/-- The greatest probability of a token. -/
theorem pay3_apply (z : Fin 1) :
    k0_pay3 X R (ix2 t z) = prob (fun k => X (ix2 t k)) (fun k e => R (ix2 k e)) i := by
  rw [← hp.first.fold_max]
  unfold k0_pay3
  simp only [pointwise, pay2_apply, word_bot]

/-- The expert that has it, the first among equals. -/
theorem pay4_apply (z : Fin 1) : k0_pay4 X R (ix2 t z) = BitVec.ofNat 32 i.val := by
  refine Eq.trans ?_ (hp.first.fold_minsi 8#32 2147483647#32 (by decide) (by decide) (by decide) _ fun k => rfl)
  unfold k0_pay4
  simp only [pointwise, pay2_apply, pay3_apply X R t hp, lane, OfNat.ofNat_ne_one, ↓reduceDIte]

/-- The probabilities with the first expert's lowered to minus infinity. -/
theorem pay5_apply (e : Fin 8) :
    k0_pay5 X R (ix2 t e) = Top2.mask (prob (fun k => X (ix2 t k)) (fun k e => R (ix2 k e))) i e := by
  unfold k0_pay5 Top2.mask
  simp only [pointwise, pay2_apply, pay4_apply X R t hp, lane, OfNat.ofNat_ne_one, ↓reduceDIte, select_eq,
    ofNat_eq_iff, word_bot]

/-- The second greatest probability. -/
theorem pay6_apply (z : Fin 1) :
    k0_pay6 X R (ix2 t z) = prob (fun k => X (ix2 t k)) (fun k e => R (ix2 k e)) j := by
  rw [← hp.mask_second, ← hp.second.fold_max]
  unfold k0_pay6
  simp only [pointwise, pay5_apply X R t hp, word_bot]

theorem pay7_apply (e : Fin 8) :
    k0_pay7 X R (ix2 t e) = if e = i then prob (fun k => X (ix2 t k)) (fun k e => R (ix2 k e)) i else 0 := by
  unfold k0_pay7
  simp only [pointwise, pay3_apply X R t hp, pay4_apply X R t hp, lane, OfNat.ofNat_ne_one, ↓reduceDIte, select_eq,
    ofNat_eq_iff]

/-- The lane of the second chosen expert. -/
theorem pay8_apply (e : Fin 8) :
    k0_pay8 X R (ix2 t e) = IntOp.cmpi .eq (BitVec.ofNat 32 e.val) (BitVec.ofNat 32 j.val) := by
  rw [← hp.second.fold_minsi 8#32 2147483647#32 (by decide) (by decide) (by decide) _ fun k => rfl]
  unfold k0_pay8
  simp only [pointwise, pay5_apply X R t hp, pay6_apply X R t hp, hp.mask_second, lane, OfNat.ofNat_ne_one,
    ↓reduceDIte]

theorem pay9_apply (e : Fin 8) :
    k0_pay9 X R (ix2 t e) = prob (fun k => X (ix2 t k)) (fun k e => R (ix2 k e)) j := by
  unfold k0_pay9
  simp only [pointwise, pay6_apply X R t hp, OfNat.ofNat_ne_one, ↓reduceDIte]

/-- The weights the kernel keeps for the eight routed experts. -/
theorem pay10_apply (e : Fin 8) :
    k0_pay10 (k0_pay7 X R) (k0_pay8 X R) (Scalar.ofBits .f32 0x00000000#32) (k0_pay9 X R) (ix2 t e) =
      Top2.weight (prob (fun k => X (ix2 t k)) (fun k e => R (ix2 k e))) i j e := by
  unfold k0_pay10 Top2.weight
  simp only [pointwise, pay7_apply X R t hp, pay8_apply X R t hp, pay9_apply X R t hp, select_eq, ofNat_eq_iff]
end

/-- The weight it keeps for the shared expert. -/
theorem pay11_apply (t : Fin 256) (e : Fin 8) : k0_pay11 (F := Ideal) (ix2 t e) = 1 := by
  unfold k0_pay11
  simp only [pointwise]

theorem ofNat_eq_iff' (a : Fin 16) (b : Fin 9) :
    (BitVec.ofNat 32 a.val = BitVec.ofNat 32 b.val) ↔ a = b.castLE (by decide) := by
  revert a b; decide

/-- One expert's weighted feed-forward. -/
theorem pay12_apply (i : grid0.Coords) (X : Vec Ideal S256x1024 .f32) (G U : Vec Ideal S1x1024x512 .f32)
    (D : Vec Ideal S1x512x1024 .f32) (W : Vec Ideal S256x16 .f32) (e : Fin 9) (he : (i 1).val = e.val) (t : Fin 256)
    (h : Fin 1024) :
    k0_pay12 i X G U D W (ix2 t h) = W (ix2 t (e.castLE (by decide))) *
      ffn (fun k => X (ix2 t k)) (fun k q => G (ix3 0 k q)) (fun k q => U (ix3 0 k q)) (fun q h => D (ix3 0 q h)) h := by
  unfold k0_pay12 ffn silu proj
  simp only [pointwise, lane, OfNat.ofNat_ne_one, ↓reduceDIte, select_eq, he, ofNat_eq_iff',
    Finset.sum_ite_eq', Finset.mem_univ, if_true, zero_add, Ideal.logistic]

theorem pay1_apply (A B : Vec Ideal S256x1024 .f32) (q : S256x1024.Idx) : k0_pay1 A B q = B q + A q := by
  unfold k0_pay1
  simp only [pointwise]

end Cert.Payloads

end
-- ==== Proof.Outs.lean ====
/-
  What one visit of the kernel's body leaves in the output block and in the weights it carries between visits, as
  the body's own values of the blocks it read.
-/
module

public import proofs.«01_k».proof.Proof.Payloads
public import proofs.«01_k».proof.Proof.Gen.KernelIdeal.Frame
public import Idealize.ShloMosaic.Lib.Pipeline.ValueKit.Basic

@[expose] public section

noncomputable section

namespace Cert.Outs

open Idealize.ShloMosaic Idealize.ShloMosaic.TcCoe Idealize.ShloMosaic.Tactic
open Idealize.SL.Sem
open Cert.KernelIdeal Cert.KernelIdeal.Gen
variable {F : FTy → Type} [FloatOps F]

/-- The two pieces a first visit writes into the weights, the later first. -/
def pieces (X : Vec F S256x1024 .f32) (R : Vec F S1024x8 .f32) : List (View.Piece (Elt F) S256x16 .f32) :=
  [⟨Rect.unit (s := S256x16) ![0, 8] S256x8.size inb_S256x16_S256x8_0_8, k0_pay11 (F := F)⟩,
   ⟨Rect.unit (s := S256x16) ![0, 0] S256x8.size inb_S256x16_S256x8_0_0,
    k0_pay10 (k0_pay7 X R) (k0_pay8 X R) (Scalar.ofBits .f32 0x00000000#32) (k0_pay9 X R)⟩]

/-- A read of the whole of the weights over those pieces. -/
theorem read_pieces (X : Vec F S256x1024 .f32) (R : Vec F S1024x8 .f32) :
    (View.whole cc0_scratch0).readCov (pieces X R)
      (Rect.unit (s := S256x16) ![0, 0] S256x16.size inb_S256x16_S256x16_0_0).toLoadRect = View.canon (pieces X R) := by
  unfold View.readCov
  rw [View.readAt_eq_ld, View.read_writes_eq_canon _ _ _ (View.cover_of_tiledL (pieces X R) S256x8.size (by sl_kernel_rfl))]
  exact View.ld_unit_lit _ _ (by decide)

variable (c : Dev nD) (t : Fin cfg0.N)
    (hc0) (hc1) (hc2)
    (x0 : Vec F S1024x8 .f32) (x1 : Vec F S256x1024 .f32) (x2 : Vec F S1x1024x512 .f32) (x3 : Vec F S1x1024x512 .f32) (x4 : Vec F S1x512x1024 .f32)

theorem sout_A :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4 = View.canon (pieces x1 x0) := by
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4)]
  unfold kernelRun0_A
  dsimp only
  sl_unfold_words
  simp only [View.readAt_eq_ld, (hs0_0 t).read_unread, (hs0_1 t).read_unread]
  simp (disch := decide) only [View.ld_unit_lit]
  rfl

theorem out_A :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4 =
     k0_pay12 (grid0.coords t) x1 x2 x3 x4 (View.canon (pieces x1 x0)) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4)]
  unfold kernelRun0_A
  dsimp only
  sl_unfold_words
  simp only [View.readAt_eq_ld, (hs0_0 t).read_unread, (hs0_1 t).read_unread, (hs0_2 t).read_unread, (hs0_3 t).read_unread, (hs0_4 t).read_unread]
  simp (disch := decide) only [View.ld_unit_lit, View.canon_cons_unit_lit]
  exact congrArg (k0_pay12 (grid0.coords t) x1 x2 x3 x4) (read_pieces x1 x0)

theorem out_B (y5 : Vec F S256x1024 .f32) (ys : Vec F S256x16 .f32) (hc0) (hc1) (hc2) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4 y5 ys =
     k0_pay1 (k0_pay12 (grid0.coords t) x1 x2 x3 x4 ys) y5 := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc0 hc1 hc2 x0 x1 x2 x3 x4 y5 ys)]
  unfold kernelRun0_B
  dsimp only
  sl_unfold_words
  simp only [View.readAt_eq_ld, (hs0_0 t).read_unread, (hs0_1 t).read_unread, (hs0_2 t).read_unread, (hs0_3 t).read_unread, (hs0_4 t).read_unread]
  simp (disch := decide) only [View.ld_unit_lit, View.canon_cons_unit_lit]
  rw [(hs0_5 t).read_unread]
  have hw : (scM0_0).IsWhole := Memref.isWhole_whole _
  exact congrArg (fun w => k0_pay1 (k0_pay12 (grid0.coords t) x1 x2 x3 x4 w) y5) (hw.read_unread ys)

end Cert.Outs

end
-- ==== Proof.Blocks.lean ====
/-
  The blocks the kernel's windows bring in, read at an index of the array they come from, and the combination weights a
  first visit leaves, read at a token and a lane.
-/
module

public import proofs.«01_k».proof.Proof.Outs
public import Idealize.ShloMosaic.Lib.Pipeline.ValueKit.Geometry

@[expose] public section

noncomputable section

namespace Cert.Blocks

open Idealize.ShloMosaic Idealize.ShloMosaic.TcCoe Idealize.ShloMosaic.Tactic
open Idealize.SL.Sem
open Cert.KernelIdeal Cert.KernelIdeal.Gen Cert.Spec Cert.Payloads Cert.Outs

/-- Where each window stands at a visit: the router does not move, the tokens' block is the visit's quotient by nine,
    the expert's three blocks its remainder. -/
theorem stands : ∀ t : Fin cfg0.N,
    (win0_0.index t (0 : Fin 2) = 0 ∧ win0_0.index t (1 : Fin 2) = 0)
    ∧ (win0_1.index t (0 : Fin 2) = t.val / 9 ∧ win0_1.index t (1 : Fin 2) = 0)
    ∧ (win0_2.index t (0 : Fin 3) = t.val % 9 ∧ win0_2.index t (1 : Fin 3) = 0 ∧ win0_2.index t (2 : Fin 3) = 0)
    ∧ (win0_3.index t (0 : Fin 3) = t.val % 9 ∧ win0_3.index t (1 : Fin 3) = 0 ∧ win0_3.index t (2 : Fin 3) = 0)
    ∧ (win0_4.index t (0 : Fin 3) = t.val % 9 ∧ win0_4.index t (1 : Fin 3) = 0 ∧ win0_4.index t (2 : Fin 3) = 0)
    ∧ (win0_5.index t (0 : Fin 2) = t.val / 9 ∧ win0_5.index t (1 : Fin 2) = 0)
    ∧ (grid0.coords t 1).val = t.val % 9 :=
  (by decide +kernel : ∀ t : Fin grid0.N, _)

section
variable {F : FTy → Type} [FloatOps F] (m : (ℓ : Loc nD τ sig) → Buf (Elt F) ℓ) (c : Dev nD) (t : Fin cfg0.N)

theorem router_block (k : Fin 1024) (e : Fin 8) : iblk m c 0 t (ix2 k e) = V m c main_arg1 (ix2 k e) := by
  obtain ⟨⟨h0, h1⟩, -⟩ := stands t
  unfold iblk
  rw [View.read_apply]
  show V m c main_arg1 _ = _
  congr 1
  funext a
  apply Fin.ext
  match a with
  | ⟨0, _⟩ => show win0_0.index t (0 : Fin 2) * 1024 + 1 * k.val = k.val; rw [h0]; omega
  | ⟨1, _⟩ => show win0_0.index t (1 : Fin 2) * 8 + 1 * e.val = e.val; rw [h1]; omega

theorem token_block (r : Fin 256) (k : Fin 1024) (T : Fin 2048) (hT : T.val = t.val / 9 * 256 + r.val) :
    iblk m c 1 t (ix2 r k) = V m c main_v0 (ix2 T k) := by
  obtain ⟨-, ⟨h0, h1⟩, -⟩ := stands t
  unfold iblk
  rw [View.read_apply]
  show V m c main_v0 _ = _
  congr 1
  funext a
  apply Fin.ext
  match a with
  | ⟨0, _⟩ => show win0_1.index t (0 : Fin 2) * 256 + 1 * r.val = T.val; rw [h0]; omega
  | ⟨1, _⟩ => show win0_1.index t (1 : Fin 2) * 1024 + 1 * k.val = k.val; rw [h1]; omega

theorem gate_block (k : Fin 1024) (q : Fin 512) (e : Fin 9) (he : e.val = t.val % 9) :
    iblk m c 2 t (ix3 0 k q) = V m c main_v2 (ix3 e k q) := by
  obtain ⟨-, -, ⟨h0, h1, h2⟩, -⟩ := stands t
  unfold iblk
  rw [View.read_apply]
  show V m c main_v2 _ = _
  congr 1
  funext a
  apply Fin.ext
  match a with
  | ⟨0, _⟩ => show win0_2.index t (0 : Fin 3) * 1 + 1 * 0 = e.val; rw [h0]; omega
  | ⟨1, _⟩ => show win0_2.index t (1 : Fin 3) * 1024 + 1 * k.val = k.val; rw [h1]; omega
  | ⟨2, _⟩ => show win0_2.index t (2 : Fin 3) * 512 + 1 * q.val = q.val; rw [h2]; omega

theorem up_block (k : Fin 1024) (q : Fin 512) (e : Fin 9) (he : e.val = t.val % 9) :
    iblk m c 3 t (ix3 0 k q) = V m c main_v4 (ix3 e k q) := by
  obtain ⟨-, -, -, ⟨h0, h1, h2⟩, -⟩ := stands t
  unfold iblk
  rw [View.read_apply]
  show V m c main_v4 _ = _
  congr 1
  funext a
  apply Fin.ext
  match a with
  | ⟨0, _⟩ => show win0_3.index t (0 : Fin 3) * 1 + 1 * 0 = e.val; rw [h0]; omega
  | ⟨1, _⟩ => show win0_3.index t (1 : Fin 3) * 1024 + 1 * k.val = k.val; rw [h1]; omega
  | ⟨2, _⟩ => show win0_3.index t (2 : Fin 3) * 512 + 1 * q.val = q.val; rw [h2]; omega

theorem down_block (q : Fin 512) (h : Fin 1024) (e : Fin 9) (he : e.val = t.val % 9) :
    iblk m c 4 t (ix3 0 q h) = V m c main_v6 (ix3 e q h) := by
  obtain ⟨-, -, -, -, ⟨h0, h1, h2⟩, -⟩ := stands t
  unfold iblk
  rw [View.read_apply]
  show V m c main_v6 _ = _
  congr 1
  funext a
  apply Fin.ext
  match a with
  | ⟨0, _⟩ => show win0_4.index t (0 : Fin 3) * 1 + 1 * 0 = e.val; rw [h0]; omega
  | ⟨1, _⟩ => show win0_4.index t (1 : Fin 3) * 512 + 1 * q.val = q.val; rw [h1]; omega
  | ⟨2, _⟩ => show win0_4.index t (2 : Fin 3) * 1024 + 1 * h.val = h.val; rw [h2]; omega

/-- Window 1's block does not change over the nine visits of one block of tokens. -/
theorem token_block_same (s : Fin cfg0.N) (h : s.val / 9 = t.val / 9) : iblk m c 1 s = iblk m c 1 t := by
  funext j
  obtain ⟨r, k, rfl⟩ : ∃ (r : Fin 256) (k : Fin 1024), j = ix2 r k := ⟨j 0, j 1, by funext a; match a with | ⟨0, _⟩ => rfl | ⟨1, _⟩ => rfl⟩
  have ht : t.val < 72 := Nat.lt_of_lt_of_eq t.isLt N_0
  have hr := r.isLt
  rw [token_block m c s r k ⟨t.val / 9 * 256 + r.val, by omega⟩ (by rw [h]), token_block m c t r k ⟨t.val / 9 * 256 + r.val, by omega⟩ rfl]

end

/-- The weight of expert `e` out of nine: the eight routed experts by the pair of largest entries, the shared one 1. -/
def weight9 (p : Fin 8 → EReal) (i j : Fin 8) (e : Fin 9) : EReal :=
  if h : e.val < 8 then Top2.weight p i j ⟨e.val, h⟩ else 1

/-- The weights a first visit leaves, at a token and one of the nine lanes that are read. -/
theorem pieces_apply (X : Vec Ideal S256x1024 .f32) (R : Vec Ideal S1024x8 .f32) (r : Fin 256)
    {i j : Fin 8} (hp : Top2.Pair (prob (fun k => X (ix2 r k)) (fun k e => R (ix2 k e))) i j) (e : Fin 9) :
    View.canon (pieces X R) (ix2 r (e.castLE (by decide)))
      = weight9 (prob (fun k => X (ix2 r k)) (fun k e => R (ix2 k e))) i j e := by
  unfold pieces weight9
  by_cases h : e.val < 8
  · rw [dif_pos h, View.canon_cons_of_not_mem]
    · rw [show (ix2 r (e.castLE (by decide)) : S256x16.Idx)
          = (Rect.unit (s := S256x16) ![0, 0] S256x8.size inb_S256x16_S256x8_0_0).emb (ix2 r (⟨e.val, h⟩ : Fin 8)) from ?_,
        View.canon_cons_emb, pay10_apply X R r hp]
      funext a
      apply Fin.ext
      match a with
      | ⟨0, _⟩ => show r.val = 0 + 1 * r.val; omega
      | ⟨1, _⟩ => show e.val = 0 + 1 * e.val; omega
    · rw [Rect.mem_set_unit]
      intro hm
      have := (hm (1 : Fin 2)).1
      have h8 : 8 ≤ e.val := this
      omega
  · rw [dif_neg h]
    have he := e.isLt
    rw [show (ix2 r (e.castLE (by decide)) : S256x16.Idx)
          = (Rect.unit (s := S256x16) ![0, 8] S256x8.size inb_S256x16_S256x8_0_8).emb (ix2 r (0 : Fin 8)) from ?_,
        View.canon_cons_emb, pay11_apply]
    funext a
    apply Fin.ext
    match a with
    | ⟨0, _⟩ => show r.val = 0 + 1 * r.val; omega
    | ⟨1, _⟩ => show e.val = 8 + 1 * 0; omega

end Cert.Blocks

end
-- ==== Proof.Accumulate.lean ====
/-
  The kernel's result array, element by element: nine visits to a block of tokens add the nine experts' weighted
  outputs in order, and the block is written back after the ninth.
-/
module

public import proofs.«01_k».proof.Proof.Blocks

@[expose] public section

noncomputable section

namespace Cert.Accumulate

open Idealize.ShloMosaic Idealize.ShloMosaic.TcCoe Idealize.ShloMosaic.Tactic
open Idealize.SL.Sem
open Cert.KernelIdeal Cert.KernelIdeal.Gen Cert.Spec Cert.Payloads Cert.Outs Cert.Blocks

variable (m : (ℓ : Loc nD τ sig) → Buf (Elt Ideal) ℓ) (c : Dev nD)

/-- A token's row, the router's matrix and the nine experts' matrices, as the windows find them. -/
def row (T : Fin 2048) (k : Fin 1024) : EReal := V m c main_v0 (ix2 T k)
def router (k : Fin 1024) (e : Fin 8) : EReal := V m c main_arg1 (ix2 k e)
def gates (e : Fin 9) (k : Fin 1024) (q : Fin 512) : EReal := V m c main_v2 (ix3 e k q)
def ups (e : Fin 9) (k : Fin 1024) (q : Fin 512) : EReal := V m c main_v4 (ix3 e k q)
def downs (e : Fin 9) (q : Fin 512) (h : Fin 1024) : EReal := V m c main_v6 (ix3 e q h)

variable (i j : Fin 2048 → Fin 8)

/-- What expert `e` of nine adds at a token and a column. -/
def term (T : Fin 2048) (h : Fin 1024) (e : Fin 9) : EReal :=
  weight9 (prob (row m c T) (router m c)) (i T) (j T) e * ffn (row m c T) (gates m c e) (ups m c e) (downs m c e) h

/-- The same by number, nothing beyond the ninth. -/
def termN (T : Fin 2048) (h : Fin 1024) (n : ℕ) : EReal := if hn : n < 9 then term m c i j T h ⟨n, hn⟩ else 0

/-- The nine terms of one element of the result. -/
def total (T : Fin 2048) (h : Fin 1024) : EReal := ∑ e, term m c i j T h e

theorem range_total (T : Fin 2048) (h : Fin 1024) :
    ∑ e ∈ Finset.range (8 + 1), termN m c i j T h e = total m c i j T h := by
  rw [total, ← Fin.sum_univ_eq_sum_range (fun n => termN m c i j T h n) (8 + 1)]
  refine Finset.sum_congr rfl fun e _ => ?_
  rw [termN, dif_pos e.isLt]

/-- The router's block is the same at every visit. -/
theorem router_block_same (s t : Fin cfg0.N) : iblk m c 0 s = iblk m c 0 t := by
  funext y
  obtain ⟨k, e, rfl⟩ : ∃ (k : Fin 1024) (e : Fin 8), y = ix2 k e :=
    ⟨y 0, y 1, by funext a; match a with | ⟨0, _⟩ => rfl | ⟨1, _⟩ => rfl⟩
  rw [router_block m c s, router_block m c t]

variable (hp : ∀ T, Top2.Pair (prob (row m c T) (router m c)) (i T) (j T))
include hp

/-- The body's product at a visit, over the weights of the visit's block of tokens. -/
theorem visit (t : Fin cfg0.N) (r : Fin 256) (h : Fin 1024) (T : Fin 2048) (hT : T.val = t.val / 9 * 256 + r.val) :
    k0_pay12 (grid0.coords t) (iblk m c 1 t) (iblk m c 2 t) (iblk m c 3 t) (iblk m c 4 t)
        (View.canon (pieces (iblk m c 1 t) (iblk m c 0 t))) (ix2 r h)
      = termN m c i j T h (t.val % 9) := by
  have h9 : t.val % 9 < 9 := Nat.mod_lt _ (by decide)
  have hx : (fun k => iblk m c 1 t (ix2 r k)) = row m c T := funext fun k => token_block m c t r k T hT
  have hr : (fun k e => iblk m c 0 t (ix2 k e)) = router m c := by funext k e; exact router_block m c t k e
  have hP : Top2.Pair (prob (fun k => iblk m c 1 t (ix2 r k)) (fun k e => iblk m c 0 t (ix2 k e))) (i T) (j T) := by
    rw [hx, hr]; exact hp T
  have hg : (fun k q => iblk m c 2 t (ix3 0 k q)) = gates m c ⟨t.val % 9, h9⟩ := by
    funext k q; exact gate_block m c t k q ⟨t.val % 9, h9⟩ rfl
  have hu : (fun k q => iblk m c 3 t (ix3 0 k q)) = ups m c ⟨t.val % 9, h9⟩ := by
    funext k q; exact up_block m c t k q ⟨t.val % 9, h9⟩ rfl
  have hd : (fun q h => iblk m c 4 t (ix3 0 q h)) = downs m c ⟨t.val % 9, h9⟩ := by
    funext q h; exact down_block m c t q h ⟨t.val % 9, h9⟩ rfl
  rw [pay12_apply _ _ _ _ _ _ ⟨t.val % 9, h9⟩ (stands t).2.2.2.2.2.2, pieces_apply _ _ r hP]
  simp only [hx, hr, hg, hu, hd]
  rw [termN, dif_pos h9]
  rfl

/-- After the visit of expert `n`: the weights of the block, and the first `n + 1` experts' terms added. -/
theorem after_visit (n : ℕ) : ∀ t : Fin cfg0.N, t.val % 9 = n →
    (outsAt0 m c t.val t.isLt).2 = View.canon (pieces (iblk m c 1 t) (iblk m c 0 t))
    ∧ ∀ (r : Fin 256) (h : Fin 1024) (T : Fin 2048), T.val = t.val / 9 * 256 + r.val →
      (outsAt0 m c t.val t.isLt).1 (ix2 r h) = ∑ e ∈ Finset.range (n + 1), termN m c i j T h e := by
  induction n with
  | zero =>
    intro t ht
    rw [outsAt0_A m c t ht ht (by omega)]
    dsimp only
    rw [sout_A, out_A]
    refine ⟨rfl, fun r h T hT => ?_⟩
    rw [visit m c i j hp t r h T hT, ht]
    simp
  | succ n ih =>
    intro t ht
    have h0 : ¬ t.val % 9 = 0 := by omega
    let s : Fin cfg0.N := ⟨t.val - 1, Nat.lt_of_le_of_lt (Nat.sub_le _ _) t.isLt⟩
    have hs : s.val % 9 = n := by show (t.val - 1) % 9 = n; omega
    have hq : s.val / 9 = t.val / 9 := by show (t.val - 1) / 9 = t.val / 9; omega
    obtain ⟨ih2, ih1⟩ := ih s hs
    rw [router_block_same m c s t, token_block_same m c t s hq] at ih2
    have hB := outsAt0_B m c t h0 h0 (by omega)
    rw [out_B] at hB
    rw [hB]
    refine ⟨ih2, fun r h T hT => (pay1_apply _ _ _).trans ?_⟩
    have e1 := ih1 r h T (by rw [hq]; exact hT)
    dsimp only [s] at e1 ih2
    rw [e1, ih2, visit m c i j hp t r h T hT, ht, Finset.sum_range_succ _ (n + 1)]

/-- The result array when the pipeline has finished. -/
theorem array : (dats m 0 c).arrAt 5 cfg0.N = fun y : S2048x1024.Idx => total m c i j (y 0) (y 1) := by
  refine (dats m 0 c).arrAt_eq_of_covers 5 _ (by decide +kernel) fun t hf y => ?_
  have h8 : t.val % 9 = 8 := (flush0_5 t).mp hf
  obtain ⟨-, -, -, -, -, ⟨h0, h1⟩, -⟩ := stands t
  have ht : t.val < 72 := Nat.lt_of_lt_of_eq t.isLt N_0
  have hy0 : (y 0).val < 256 := (y 0).isLt
  have e0 : (((cfg0.win 5).blk t).view.emb y 0).val = win0_5.index t (0 : Fin 2) * 256 + 1 * (y 0).val := rfl
  have e1 : (((cfg0.win 5).blk t).view.emb y 1).val = win0_5.index t (1 : Fin 2) * 1024 + 1 * (y 1).val := rfl
  have hc : ((cfg0.win 5).xinj (cfg0.grid.coords t) y : S256x1024.Idx)
      = ix2 (⟨(y 0).val, hy0⟩ : Fin 256) (⟨(y 1).val, (y 1).isLt⟩ : Fin 1024) := by
    funext a; match a with | ⟨0, _⟩ => rfl | ⟨1, _⟩ => rfl
  show (dats m 0 c).after 5 t ((cfg0.win 5).xinj (cfg0.grid.coords t) y) = total m c i j _ _
  rw [after0_5, hc]
  refine ((after_visit m c i j hp 8 t h8).2 _ _ (((cfg0.win 5).blk t).view.emb y 0) ?_).trans ?_
  · rw [e0, h0, Nat.one_mul]
  have hh : (⟨(y 1).val, (y 1).isLt⟩ : Fin 1024) = ((cfg0.win 5).blk t).view.emb y 1 :=
    Fin.ext (by rw [e1, h1, Nat.zero_mul, Nat.zero_add, Nat.one_mul])
  rw [hh]
  exact range_total m c i j _ _

end Cert.Accumulate

end
-- ==== Proof.KernelRun.lean ====
/-
  The kernel's run: what its result holds, element by element, as a function of the arguments.
-/
module

public import proofs.«01_k».proof.Proof.Accumulate
public import Idealize.ShloMosaic.Lib.StableHlo.Run

@[expose] public section

noncomputable section

namespace Cert.KernelRun

open Idealize.ShloMosaic Idealize.ShloMosaic.TcCoe Idealize.ShloMosaic.Tactic
open Idealize.SL.Sem
open Cert.KernelIdeal Cert.KernelIdeal.Gen Cert.Spec Cert.Payloads Cert.Outs Cert.Blocks Cert.Accumulate

variable (m : (ℓ : Loc nD τ sig) → Buf (Elt Ideal) ℓ) (c : Dev nD)

/-- An argument's contents at launch. -/
abbrev arg (b : Ref sig .tc) : Buf (Elt Ideal) ((c : Thread nD τ).loc b) := m ((c : Thread nD τ).loc b)

theorem V_main_v0 : V m c main_v0 = shapeCast S2048x1024 (arg m c main_arg0) shapeCasts_S1x2048x1024_S2048x1024 := by
  show StableHlo.after hostOps0 _ (Proc.devRef .tc main_v0) = _
  after_results
  rfl

theorem V_main_v2 : V m c main_v2 = concatenate S9x1024x512 0 [⟨S8x1024x512, arg m c main_arg2⟩,
      ⟨S1x1024x512, broadcastInDim S1x1024x512 ![1, 2] bcast_S1024x512_S1x1024x512_1_2 (arg m c main_arg5)⟩]
      concatenates_S8x1024x512_S1x1024x512_S9x1024x512_d0 := by
  show StableHlo.after hostOps0 _ (Proc.devRef .tc main_v2) = _
  after_results

theorem V_main_v4 : V m c main_v4 = concatenate S9x1024x512 0 [⟨S8x1024x512, arg m c main_arg3⟩,
      ⟨S1x1024x512, broadcastInDim S1x1024x512 ![1, 2] bcast_S1024x512_S1x1024x512_1_2 (arg m c main_arg6)⟩]
      concatenates_S8x1024x512_S1x1024x512_S9x1024x512_d0 := by
  show StableHlo.after hostOps0 _ (Proc.devRef .tc main_v4) = _
  after_results

theorem V_main_v6 : V m c main_v6 = concatenate S9x512x1024 0 [⟨S8x512x1024, arg m c main_arg4⟩,
      ⟨S1x512x1024, broadcastInDim S1x512x1024 ![1, 2] bcast_S512x1024_S1x512x1024_1_2 (arg m c main_arg7)⟩]
      concatenates_S8x512x1024_S1x512x1024_S9x512x1024_d0 := by
  show StableHlo.after hostOps0 _ (Proc.devRef .tc main_v6) = _
  after_results

/-- Eight matrices with a ninth joined on: one of the eight. -/
theorem joined_left {a b : ℕ} (X : (⟨3, ![8, a, b]⟩ : Shape).Idx → EReal) (Y : (⟨3, ![1, a, b]⟩ : Shape).Idx → EReal)
    (h : Shape.Concatenates [⟨3, ![8, a, b]⟩, ⟨3, ![1, a, b]⟩] ⟨3, ![9, a, b]⟩ 0) (e : Fin 8) (k : Fin a) (q : Fin b) :
    concatenate ⟨3, ![9, a, b]⟩ 0 [⟨⟨3, ![8, a, b]⟩, X⟩, ⟨⟨3, ![1, a, b]⟩, Y⟩] h (ix3 e.castSucc k q) = X (ix3 e k q) :=
  concatenate_pair_apply_left _ _ _ h _ rfl _ fun z => match z with
    | ⟨0, _⟩ => rfl
    | ⟨1, _⟩ => rfl
    | ⟨2, _⟩ => rfl

/-- Eight matrices with a ninth joined on: the ninth. -/
theorem joined_right {a b : ℕ} (X : (⟨3, ![8, a, b]⟩ : Shape).Idx → EReal) (Y : (⟨3, ![1, a, b]⟩ : Shape).Idx → EReal)
    (h : Shape.Concatenates [⟨3, ![8, a, b]⟩, ⟨3, ![1, a, b]⟩] ⟨3, ![9, a, b]⟩ 0) (k : Fin a) (q : Fin b) :
    concatenate ⟨3, ![9, a, b]⟩ 0 [⟨⟨3, ![8, a, b]⟩, X⟩, ⟨⟨3, ![1, a, b]⟩, Y⟩] h (ix3 (Fin.last 8) k q)
      = Y (ix3 0 k q) :=
  concatenate_pair_apply_right _ _ _ h _ rfl rfl _ (fun z hz => match z with
    | ⟨0, _⟩ => absurd rfl hz
    | ⟨1, _⟩ => rfl
    | ⟨2, _⟩ => rfl) rfl

theorem row_eq (T : Fin 2048) (k : Fin 1024) : row m c T k = arg m c main_arg0 (ix3 0 T k) := by
  unfold row
  rw [V_main_v0]
  simp only [pointwise]

theorem router_eq (k : Fin 1024) (e : Fin 8) : router m c k e = arg m c main_arg1 (ix2 k e) :=
  congrFun (V_main_arg1 m c) _

theorem gates_left (e : Fin 8) (k : Fin 1024) (q : Fin 512) : gates m c e.castSucc k q = arg m c main_arg2 (ix3 e k q) := by
  unfold gates
  rw [V_main_v2]
  exact joined_left _ _ _ e k q

theorem gates_right (k : Fin 1024) (q : Fin 512) : gates m c (Fin.last 8) k q = arg m c main_arg5 (ix2 k q) := by
  unfold gates
  rw [V_main_v2]
  refine (joined_right _ _ _ k q).trans ?_
  simp only [pointwise]
  rfl

theorem ups_left (e : Fin 8) (k : Fin 1024) (q : Fin 512) : ups m c e.castSucc k q = arg m c main_arg3 (ix3 e k q) := by
  unfold ups
  rw [V_main_v4]
  exact joined_left _ _ _ e k q

theorem ups_right (k : Fin 1024) (q : Fin 512) : ups m c (Fin.last 8) k q = arg m c main_arg6 (ix2 k q) := by
  unfold ups
  rw [V_main_v4]
  refine (joined_right _ _ _ k q).trans ?_
  simp only [pointwise]
  rfl

theorem downs_left (e : Fin 8) (q : Fin 512) (h : Fin 1024) : downs m c e.castSucc q h = arg m c main_arg4 (ix3 e q h) := by
  unfold downs
  rw [V_main_v6]
  exact joined_left _ _ _ e q h

theorem downs_right (q : Fin 512) (h : Fin 1024) : downs m c (Fin.last 8) q h = arg m c main_arg7 (ix2 q h) := by
  unfold downs
  rw [V_main_v6]
  refine (joined_right _ _ _ q h).trans ?_
  simp only [pointwise]
  rfl

/-- The result after the last reshape. -/
theorem tail_main_v8 : Pipeline.afterTail₀ cfgs (dats m) 0 (V0 m) [hostOps1] c main_v8
    = shapeCast S1x2048x1024 ((dats m 0 c).arrAt 5 cfg0.N) shapeCasts_S2048x1024_S1x2048x1024 := by
  unfold Pipeline.afterTail₀
  show StableHlo.after hostOps1 _ (Proc.devRef .tc main_v8) = _
  after_results
  have h5 : Pipeline.withArrays spec0 c (V0 m c) (fun w => (dats m 0 c).arrAt w cfg0.N) (Proc.devRef .tc main_v7)
      = (dats m 0 c).arrAt 5 cfg0.N := Pipeline.withArrays_arr spec0 winFacts0.arr_inj c _ _ 5
  exact congrArg (fun x => shapeCast S1x2048x1024 x shapeCasts_S2048x1024_S1x2048x1024) h5

theorem total_eq (i j : Fin 2048 → Fin 8) (T : Fin 2048) (h : Fin 1024) : total m c i j T h
    = result (arg m c main_arg0) (arg m c main_arg1) (arg m c main_arg2) (arg m c main_arg3) (arg m c main_arg4)
      (arg m c main_arg5) (arg m c main_arg6) (arg m c main_arg7) i j (ix3 0 T h) := by
  have hx : row m c T = fun k => arg m c main_arg0 (ix3 0 T k) := funext fun k => row_eq m c T k
  have hr : router m c = fun k e => arg m c main_arg1 (ix2 k e) := by funext k e; exact router_eq m c k e
  have hg (e : Fin 8) : gates m c e.castSucc = fun k q => arg m c main_arg2 (ix3 e k q) := by
    funext k q; exact gates_left m c e k q
  have hu (e : Fin 8) : ups m c e.castSucc = fun k q => arg m c main_arg3 (ix3 e k q) := by
    funext k q; exact ups_left m c e k q
  have hd (e : Fin 8) : downs m c e.castSucc = fun q h => arg m c main_arg4 (ix3 e q h) := by
    funext q h; exact downs_left m c e q h
  have hg' : gates m c (Fin.last 8) = fun k q => arg m c main_arg5 (ix2 k q) := by funext k q; exact gates_right m c k q
  have hu' : ups m c (Fin.last 8) = fun k q => arg m c main_arg6 (ix2 k q) := by funext k q; exact ups_right m c k q
  have hd' : downs m c (Fin.last 8) = fun q h => arg m c main_arg7 (ix2 q h) := by funext q h; exact downs_right m c q h
  unfold total
  rw [Fin.sum_univ_castSucc]
  simp only [term, hx, hr, hg, hu, hd, hg', hu', hd']
  have hw (p : Fin 8 → EReal) (a b e : Fin 8) : weight9 p a b e.castSucc = Top2.weight p a b e := by
    unfold weight9; exact dif_pos e.isLt
  have hw' (p : Fin 8 → EReal) (a b : Fin 8) : weight9 p a b (Fin.last 8) = 1 := by
    unfold weight9; exact dif_neg (by decide)
  simp only [hw, hw', one_mul]
  rfl

/-- Every run of the kernel ends with the result of the arguments, when each token's two experts are `i` and `j`, and
    with the arguments unchanged. -/
theorem run (ρ : Dev nD → PrngReg) (i j : Dev nD → Fin 2048 → Fin 8)
    (hp : ∀ c T, Top2.Pair (prob (fun k => arg m c main_arg0 (ix3 0 T k)) (fun k e => arg m c main_arg1 (ix2 k e)))
      (i c T) (j c T)) :
    θ_run defs (onTc (τ := τ) (main (F := Ideal))) ⟨m, fun _ => 0, ρ⟩ (fun r => ∀ c : Dev nD,
      r.2.mem ((c.tc : Thread nD τ).loc main_v8)
        = result (arg m c main_arg0) (arg m c main_arg1) (arg m c main_arg2) (arg m c main_arg3) (arg m c main_arg4)
            (arg m c main_arg5) (arg m c main_arg6) (arg m c main_arg7) (i c) (j c)) := by
  refine (θ_run defs _ _).mono (fun r h c => ?_) (run_main m ρ)
  refine ((h c).2 main_v8 (Pipeline.mem_restRefs_of main_v8 (by decide) (by decide))).trans ?_
  have hP : ∀ T, Top2.Pair (prob (row m c T) (router m c)) (i c T) (j c T) := by
    intro T
    have hx : row m c T = fun k => arg m c main_arg0 (ix3 0 T k) := funext fun k => row_eq m c T k
    have hr : router m c = fun k e => arg m c main_arg1 (ix2 k e) := by funext k e; exact router_eq m c k e
    rw [hx, hr]
    exact hp c T
  rw [tail_main_v8, array m c (i c) (j c) hP]
  funext y
  obtain ⟨z, T, q, rfl⟩ : ∃ (z : Fin 1) (T : Fin 2048) (q : Fin 1024), y = ix3 z T q :=
    ⟨y 0, y 1, y 2, by funext a; match a with | ⟨0, _⟩ => rfl | ⟨1, _⟩ => rfl | ⟨2, _⟩ => rfl⟩
  obtain rfl : z = 0 := Subsingleton.elim _ _
  simp only [pointwise]
  exact total_eq m c (i c) (j c) T q

end Cert.KernelRun

end
-- ==== Proof.RefRouter.lean ====
/-
  The reference's router at a token: the logits, their softmax, the two experts its top-two search returns, and the
  weight each expert gets.
-/
module

public import proofs.«01_k».proof.Proof.Payloads
public import proofs.«01_k».proof.Proof.Gen.ReferenceIdeal.Run

@[expose] public section

noncomputable section

namespace Cert.RefRouter

open Idealize.ShloMosaic Idealize.ShloMosaic.TcCoe Cert.ReferenceIdeal Cert.ReferenceIdeal.Gen Cert.ReferenceIdeal.Value Cert.Spec Cert.Payloads

variable (W : Valuation τ sig (Elt Ideal))

/-- The arguments' contents, by index. -/
def tok (T : Fin 2048) (k : Fin 1024) : EReal := W (Proc.devRef .tc main_arg0) (ix3 0 T k)
def rout (k : Fin 1024) (e : Fin 8) : EReal := W (Proc.devRef .tc main_arg1) (ix2 k e)

theorem logit_apply (T : Fin 2048) (e : Fin 8) : res_main_v3 W (ix3 0 T e) = logit (tok W T) (rout W) e := by
  unfold res_main_v3 logit tok rout
  simp only [pointwise, zero_add]

/-- The indices a token's reduction runs over are its eight experts. -/
theorem drop_iff (i : S1x2048x8.Idx) (T : Fin 2048) :
    reducesTo_S1x2048x8_S1x2048_d2.drop i = ix2 0 T ↔ ∃ k : Fin 8, i = ix3 0 T k := by
  constructor
  · intro h
    refine ⟨i 2, ?_⟩
    have h1 : i 1 = T := congrFun h 1
    funext a
    match a with
    | ⟨0, _⟩ => exact Subsingleton.elim (α := Fin 1) _ _
    | ⟨1, _⟩ => exact h1
    | ⟨2, _⟩ => rfl
  · rintro ⟨k, rfl⟩
    funext a
    match a with
    | ⟨0, _⟩ => rfl
    | ⟨1, _⟩ => rfl

/-- The greatest of a token's logits, as the reference reduces them. -/
theorem fold_top (f : S1x2048x8.Idx → EReal) (T : Fin 2048) :
    Finset.fold max ⊥ f {i | reducesTo_S1x2048x8_S1x2048_d2.drop i = ix2 0 T} = top (fun k => f (ix3 0 T k)) := by
  refine eq_of_forall_ge_iff fun c => ?_
  unfold top
  rw [Finset.fold_max_le, Finset.fold_max_le]
  refine and_congr_right fun _ => ⟨fun h k _ => h _ ?_, fun h i hi => ?_⟩
  · rw [Finset.mem_filter]
    exact ⟨Finset.mem_univ _, (drop_iff _ T).mpr ⟨k, rfl⟩⟩
  · obtain ⟨k, rfl⟩ := (drop_iff i T).mp (Finset.mem_filter.mp hi).2
    exact h k (Finset.mem_univ _)

theorem exp_apply (T : Fin 2048) (e : Fin 8) : res_main_v10 W (ix3 0 T e) = expo (logit (tok W T) (rout W)) e := by
  unfold res_main_v10 expo
  simp only [pointwise, logit_apply, word_bot, OfNat.ofNat_ne_one, ↓reduceDIte, max_bot_left]
  refine congrArg (fun a => Ideal.exp (logit (tok W T) (rout W) e - a)) ?_
  exact (fold_top (res_main_v3 W) T).trans (congrArg top (funext fun k => logit_apply W T k))

theorem prob_apply (T : Fin 2048) (e : Fin 8) : res_main_v14 W (ix3 0 T e) = prob (tok W T) (rout W) e := by
  unfold res_main_v14 prob soft
  simp only [pointwise, exp_apply, OfNat.ofNat_ne_one, ↓reduceDIte, zero_add]

/-- The expert the sort puts at a place. -/
def pick (T : Fin 2048) (o : Fin 8) : Fin 8 :=
  sortedFrom (fun x y => decide (prob (tok W T) (rout W) y < prob (tok W T) (rout W) x)) o

theorem along_eq (T : Fin 2048) (o k : Fin 8) : (ix3 (0 : Fin 1) T o : S1x2048x8.Idx).along 2 k = ix3 0 T k := by
  funext a
  match a with
  | ⟨0, _⟩ => rfl
  | ⟨1, _⟩ => rfl
  | ⟨2, _⟩ => rfl

/-- The comparator asks for the greater one. -/
theorem gt_iff (a b : EReal) :
    ((FloatOps.cmpfTotal (F := Ideal) (φ := .f32) .gt a b : BitVec 1) == 1#1) = decide (b < a) := by
  show (BitVec.ofBool (decide (b < a)) == 1#1) = _
  cases decide (b < a) <;> rfl

/-- A sort of the probabilities with another array along: at a place of a token, both read at the place's expert. -/
theorem sorted_place (T : Fin 2048) (o : Fin 8) (y : S1x2048x8.Idx → BitVec 32) :
    (Host.sort2 S1x2048x8 2 (fun l r => FloatOps.cmpfTotal .gt l.1 r.1) (res_main_v14 W) y).1 (ix3 0 T o)
        = prob (tok W T) (rout W) (pick W T o)
    ∧ (Host.sort2 S1x2048x8 2 (fun l r => FloatOps.cmpfTotal .gt l.1 r.1) (res_main_v14 W) y).2 (ix3 0 T o)
        = y (ix3 0 T (pick W T o)) := by
  have hπ : sortedFrom (fun k k' : Fin 8 => FloatOps.cmpfTotal (F := Ideal) (φ := .f32) .gt
      (res_main_v14 W ((ix3 (0 : Fin 1) T o : S1x2048x8.Idx).along 2 k))
      (res_main_v14 W ((ix3 (0 : Fin 1) T o : S1x2048x8.Idx).along 2 k')) == 1#1) o = pick W T o := by
    simp only [along_eq, prob_apply, gt_iff]
    rfl
  unfold Host.sort2
  rw [dif_pos (show 2 < S1x2048x8.rank by decide)]
  constructor
  · exact (congrArg (fun k : Fin 8 => res_main_v14 W ((ix3 (0 : Fin 1) T o : S1x2048x8.Idx).along 2 k)) hπ).trans
      ((congrArg (res_main_v14 W) (along_eq T o _)).trans (prob_apply W T _))
  · exact (congrArg (fun k : Fin 8 => y ((ix3 (0 : Fin 1) T o : S1x2048x8.Idx).along 2 k)) hπ).trans
      (congrArg y (along_eq T o _))

theorem topK_value (T : Fin 2048) (z : Fin 2) :
    (Host.topK S1x2048x2 2 (FloatOps.cmpfTotal .gt) (res_main_v14 W) sliceFits_S1x2048x8_S1x2048x2).1 (ix3 0 T z)
      = prob (tok W T) (rout W) (pick W T (z.castLE (by decide))) := by
  unfold Host.topK
  simp only [pointwise, zero_add]
  exact (sorted_place W T _ _).1

theorem topK_index (T : Fin 2048) (z : Fin 2) :
    (Host.topK S1x2048x2 2 (FloatOps.cmpfTotal .gt) (res_main_v14 W) sliceFits_S1x2048x8_S1x2048x2).2 (ix3 0 T z)
      = BitVec.ofNat 32 (pick W T (z.castLE (by decide))).val := by
  unfold Host.topK
  simp only [pointwise, zero_add]
  exact (sorted_place W T _ _).2

/-- A flag as a number times a number. -/
theorem flag_mul (a b : Fin 8) (x : EReal) :
    FloatOps.uitofp (F := Ideal) .f32 (IntOp.cmpi .eq (BitVec.ofNat 32 a.val) (BitVec.ofNat 32 b.val)) * x
      = if b = a then x else 0 := by
  show (((IntOp.cmpi .eq (BitVec.ofNat 32 a.val) (BitVec.ofNat 32 b.val)).toNat : ℝ) : EReal) * x = _
  by_cases h : b = a
  · subst h
    simp [IntOp.cmpi]
  · have hne : ¬ BitVec.ofNat 32 a.val = BitVec.ofNat 32 b.val := fun e => h ((ofNat_eq_iff a b).mp e).symm
    simp [IntOp.cmpi, h, beq_eq_false_iff_ne.mpr hne]

/-- The weight of expert `e` at a token. -/
theorem weight_apply (T : Fin 2048) (e : Fin 8) : res_main_v23 W (ix2 T e)
    = Top2.weight (prob (tok W T) (rout W)) (pick W T 0) (pick W T 1) e := by
  unfold res_main_v23 Top2.weight
  simp only [pointwise, OfNat.ofNat_ne_one, ↓reduceDIte, zero_add, topK_value, topK_index, flag_mul, Fin.sum_univ_two]
  rfl

end Cert.RefRouter

end
-- ==== Proof.RefRun.lean ====
/-
  The reference's run: what its result holds, element by element, as a function of the arguments.
-/
module

public import proofs.«01_k».proof.Proof.RefRouter
public import Idealize.ShloMosaic.Lib.ValueLayout

@[expose] public section

noncomputable section

namespace Cert.RefRun

open Idealize.ShloMosaic Idealize.ShloMosaic.TcCoe Idealize.SL.Sem
open Cert.ReferenceIdeal Cert.ReferenceIdeal.Gen Cert.ReferenceIdeal.Value Cert.Spec Cert.Payloads Cert.RefRouter

variable (W : Valuation τ sig (Elt Ideal))

/-- A slice of a stack of eight matrices, at an index. -/
theorem slice_apply {a b : ℕ} (G : (⟨3, ![8, a, b]⟩ : Shape).Idx → EReal) (o : ℕ) (e : Fin 8) (ho : o = e.val)
    (hs : (⟨3, ![8, a, b]⟩ : Shape).Slices ![o, 0, 0] ⟨3, ![1, a, b]⟩)
    (hc : (⟨3, ![1, a, b]⟩ : Shape).ShapeCasts ⟨2, ![a, b]⟩) (k : Fin a) (q : Fin b) :
    shapeCast ⟨2, ![a, b]⟩ (extractStridedSlice ⟨3, ![1, a, b]⟩ ![o, 0, 0] G hs) hc (ix2 k q) = G (ix3 e k q) := by
  subst ho
  refine (ValueIdx.shapeCast_1ab_ab_apply _ _ k q).trans ?_
  unfold extractStridedSlice
  refine congrArg G (funext fun z => Fin.ext ?_)
  match z with
  | ⟨0, _⟩ => show e.val + 0 = e.val; omega
  | ⟨1, _⟩ => show 0 + k.val = k.val; omega
  | ⟨2, _⟩ => show 0 + q.val = q.val; omega

/-- Tokens times one expert's slice of a stack of eight matrices. -/
theorem proj_apply (G : Vec Ideal S8x1024x512 .f32) (o : ℕ) (e : Fin 8) (ho : o = e.val)
    (hs : S8x1024x512.Slices ![o, 0, 0] S1x1024x512) (T : Fin 2048) (q : Fin 512) :
    Host.dotGeneral (φ₁ := .f32) (φ₂ := .f32) dot_S2048x1024_S1024x512_S2048x512_1_0_0_1_n_n none (res_main_v22 W)
      (shapeCast S1024x512 (extractStridedSlice S1x1024x512 ![o, 0, 0] G hs) shapeCasts_S1x1024x512_S1024x512) (ix2 T q)
      = proj (tok W T) (fun k q => G (ix3 e k q)) q := by
  have hG (k : Fin 1024) := slice_apply G o e ho hs shapeCasts_S1x1024x512_S1024x512 k q
  unfold res_main_v22 proj tok
  simp only [pointwise, zero_add] at hG ⊢
  simp only [hG]

/-- A column of the weights spread over a row of the output. -/
theorem column_apply (o : ℕ) (e : Fin 8) (ho : o = e.val) (hs : S2048x8.Slices ![0, o] S2048x1) (T : Fin 2048)
    (h : Fin 1024) :
    broadcastInDim S2048x1024 ![0, 1] bcast_S2048x1_S2048x1024_0_1
      (extractStridedSlice S2048x1 ![0, o] (res_main_v23 W) hs) (ix2 T h)
      = Top2.weight (prob (tok W T) (rout W)) (pick W T 0) (pick W T 1) e := by
  subst ho
  rw [← weight_apply]
  simp only [pointwise, OfNat.ofNat_ne_one, ↓reduceDIte]
  refine congrArg (res_main_v23 W) (funext fun z => Fin.ext ?_)
  match z with
  | ⟨0, _⟩ => show 0 + T.val = T.val; omega
  | ⟨1, _⟩ => show e.val + 0 = e.val; omega

/-- What one expert adds at a token and a column of the output. -/
theorem expert_apply (g : Vec Ideal S2048x512 .f32) (G U : Vec Ideal S8x1024x512 .f32) (D : Vec Ideal S8x512x1024 .f32)
    (o : ℕ) (e : Fin 8) (ho : o = e.val) (hg : ∀ T q, g (ix2 T q) = proj (tok W T) (fun k q => G (ix3 e k q)) q)
    (hs : S2048x8.Slices ![0, o] S2048x1) (hu : S8x1024x512.Slices ![o, 0, 0] S1x1024x512)
    (hd : S8x512x1024.Slices ![o, 0, 0] S1x512x1024) (T : Fin 2048) (h : Fin 1024) :
    mulf (F := Ideal) (φ := .f32) (broadcastInDim S2048x1024 ![0, 1] bcast_S2048x1_S2048x1024_0_1 (extractStridedSlice S2048x1 ![0, o] (res_main_v23 W) hs))
      (Host.dotGeneral (φ₁ := .f32) (φ₂ := .f32) dot_S2048x512_S512x1024_S2048x1024_1_0_0_1_n_n none
        (mulf (mulf g (Host.divf (broadcastInDim S2048x512 ![] bcast_S_S2048x512 (constant S_ .f32 0x3F800000#32))
            (addf (broadcastInDim S2048x512 ![] bcast_S_S2048x512 (constant S_ .f32 0x3F800000#32)) (Host.exp (Host.negf g)))))
          (Host.dotGeneral (φ₁ := .f32) (φ₂ := .f32) dot_S2048x1024_S1024x512_S2048x512_1_0_0_1_n_n none (res_main_v22 W)
            (shapeCast _ (extractStridedSlice S1x1024x512 ![o, 0, 0] U hu) shapeCasts_S1x1024x512_S1024x512)))
        (shapeCast _ (extractStridedSlice S1x512x1024 ![o, 0, 0] D hd) shapeCasts_S1x512x1024_S512x1024)) (ix2 T h)
      = Top2.weight (prob (tok W T) (rout W)) (pick W T 0) (pick W T 1) e
        * ffn (tok W T) (fun k q => G (ix3 e k q)) (fun k q => U (ix3 e k q)) (fun q h => D (ix3 e q h)) h := by
  have hD (q : Fin 512) := slice_apply D o e ho hd shapeCasts_S1x512x1024_S512x1024 q h
  have hU (q : Fin 512) := proj_apply W U o e ho hu T q
  have hC := column_apply W o e ho hs T h
  unfold ffn silu
  rw [mulf_apply, hC]
  refine congrArg (fun a : EReal => Top2.weight (prob (tok W T) (rout W)) (pick W T 0) (pick W T 1) e * a) ?_
  generalize shapeCast (S512x1024 : Shape) (extractStridedSlice S1x512x1024 ![o, 0, 0] D hd) shapeCasts_S1x512x1024_S512x1024 = D' at hD ⊢
  generalize Host.dotGeneral (φ₁ := .f32) (φ₂ := .f32) dot_S2048x1024_S1024x512_S2048x512_1_0_0_1_n_n none (res_main_v22 W)
    (shapeCast S1024x512 (extractStridedSlice S1x1024x512 ![o, 0, 0] U hu) shapeCasts_S1x1024x512_S1024x512) = U' at hU ⊢
  simp only [pointwise, hD, hU, hg, zero_add]

/-- Expert `e`'s part of an element of the output. -/
def part (T : Fin 2048) (h : Fin 1024) (e : Fin 8) : EReal :=
  Top2.weight (prob (tok W T) (rout W)) (pick W T 0) (pick W T 1) e
    * ffn (tok W T) (fun k q => W (Proc.devRef .tc main_arg2) (ix3 e k q)) (fun k q => W (Proc.devRef .tc main_arg3) (ix3 e k q))
        (fun q h => W (Proc.devRef .tc main_arg4) (ix3 e q h)) h

/-- The running sum after the first five experts. -/
theorem five_apply (T : Fin 2048) (h : Fin 1024) : res_main_v99 W (ix2 T h)
    = 0 + part W T h 0 + part W T h 1 + part W T h 2 + part W T h 3 + part W T h 4 := by
  unfold res_main_v99
  simp only [addf_apply]
  rw [expert_apply W (res_main_v27 W) (W (Proc.devRef .tc main_arg2)) _ _ 0 0 rfl (fun T q => proj_apply W _ 0 0 rfl _ T q),
    expert_apply W (res_main_v42 W) (W (Proc.devRef .tc main_arg2)) _ _ 1 1 rfl (fun T q => proj_apply W _ 1 1 rfl _ T q),
    expert_apply W (res_main_v57 W) (W (Proc.devRef .tc main_arg2)) _ _ 2 2 rfl (fun T q => proj_apply W _ 2 2 rfl _ T q),
    expert_apply W (res_main_v72 W) (W (Proc.devRef .tc main_arg2)) _ _ 3 3 rfl (fun T q => proj_apply W _ 3 3 rfl _ T q),
    expert_apply W (res_main_v87 W) (W (Proc.devRef .tc main_arg2)) _ _ 4 4 rfl (fun T q => proj_apply W _ 4 4 rfl _ T q)]
  simp only [pointwise]
  rfl

/-- The projection of the expert every token shares. -/
theorem shared_apply (G : Vec Ideal S1024x512 .f32) (T : Fin 2048) (q : Fin 512) :
    Host.dotGeneral (F := Ideal) (φ₁ := .f32) (φ₂ := .f32) dot_S1x2048x1024_S1024x512_S1x2048x512_2_0_01_1_n_n none
      (W (Proc.devRef .tc main_arg0)) G (ix3 0 T q) = proj (tok W T) (fun k q => G (ix2 k q)) q := by
  unfold proj tok
  simp only [pointwise, zero_add]

/-- The part of the expert every token shares. -/
theorem shared_part (T : Fin 2048) (h : Fin 1024) :
    Host.dotGeneral (F := Ideal) (φ₁ := .f32) (φ₂ := .f32) dot_S1x2048x512_S512x1024_S1x2048x1024_2_0_01_1_n_n none
      (mulf (mulf (res_main_v0 W) (Host.divf (broadcastInDim S1x2048x512 ![] bcast_S_S1x2048x512 (constant S_ .f32 0x3F800000#32))
          (addf (broadcastInDim S1x2048x512 ![] bcast_S_S1x2048x512 (constant S_ .f32 0x3F800000#32)) (Host.exp (Host.negf (res_main_v0 W))))))
        (Host.dotGeneral (F := Ideal) (φ₁ := .f32) (φ₂ := .f32) dot_S1x2048x1024_S1024x512_S1x2048x512_2_0_01_1_n_n none
          (W (Proc.devRef .tc main_arg0)) (W (Proc.devRef .tc main_arg6)))) (W (Proc.devRef .tc main_arg7)) (ix3 0 T h)
      = ffn (tok W T) (fun k q => W (Proc.devRef .tc main_arg5) (ix2 k q)) (fun k q => W (Proc.devRef .tc main_arg6) (ix2 k q))
          (fun q h => W (Proc.devRef .tc main_arg7) (ix2 q h)) h := by
  have hU (q : Fin 512) := shared_apply W (W (Proc.devRef .tc main_arg6)) T q
  have hG (q : Fin 512) : res_main_v0 W (ix3 0 T q) = _ := shared_apply W (W (Proc.devRef .tc main_arg5)) T q
  generalize Host.dotGeneral (F := Ideal) (φ₁ := .f32) (φ₂ := .f32) dot_S1x2048x1024_S1024x512_S1x2048x512_2_0_01_1_n_n none
    (W (Proc.devRef .tc main_arg0)) (W (Proc.devRef .tc main_arg6)) = U' at hU ⊢
  unfold ffn silu
  simp only [pointwise, hU, hG, zero_add]

/-- The reference's result as a function of the arguments' contents. -/
def value : Vec Ideal S1x2048x1024 .f32 :=
  result (W (Proc.devRef .tc main_arg0)) (W (Proc.devRef .tc main_arg1)) (W (Proc.devRef .tc main_arg2))
    (W (Proc.devRef .tc main_arg3)) (W (Proc.devRef .tc main_arg4)) (W (Proc.devRef .tc main_arg5))
    (W (Proc.devRef .tc main_arg6)) (W (Proc.devRef .tc main_arg7)) (fun T => pick W T 0) (fun T => pick W T 1)

theorem value_apply (T : Fin 2048) (h : Fin 1024) : value W (ix3 0 T h) = (∑ e, part W T h e)
    + ffn (tok W T) (fun k q => W (Proc.devRef .tc main_arg5) (ix2 k q)) (fun k q => W (Proc.devRef .tc main_arg6) (ix2 k q))
          (fun q h => W (Proc.devRef .tc main_arg7) (ix2 q h)) h := rfl

/-- The last reshape adds an axis of one place in front. -/
theorem cast_row (X : Vec Ideal S2048x1024 .f32) (T : Fin 2048) (h : Fin 1024) :
    shapeCast S1x2048x1024 X shapeCasts_S2048x1024_S1x2048x1024 (ix3 0 T h) = X (ix2 T h) := by
  simp only [pointwise]

theorem val3_eq : val3 W (Proc.devRef .tc main_v146) = value W := by
  refine (val3_main_v146 W).trans (funext fun y => ?_)
  obtain ⟨z, T, h, rfl⟩ : ∃ (z : Fin 1) (T : Fin 2048) (h : Fin 1024), y = ix3 z T h :=
    ⟨y 0, y 1, y 2, by funext a; match a with | ⟨0, _⟩ => rfl | ⟨1, _⟩ => rfl | ⟨2, _⟩ => rfl⟩
  obtain rfl : z = 0 := Subsingleton.elim _ _
  rw [addf_apply, shared_part, value_apply]
  refine congrArg (fun a : EReal => a + _) ?_
  refine (cast_row _ T h).trans ?_
  refine Eq.trans (b := 0 + part W T h 0 + part W T h 1 + part W T h 2 + part W T h 3 + part W T h 4 + part W T h 5
    + part W T h 6 + part W T h 7) ?_ ?_
  · rw [addf_apply, addf_apply, addf_apply]
    rw [expert_apply W (res_main_v102 W) (W (Proc.devRef .tc main_arg2)) _ _ 5 5 rfl (fun T q => proj_apply W _ 5 5 rfl _ T q),
      expert_apply W (res_main_v117 W) (W (Proc.devRef .tc main_arg2)) _ _ 6 6 rfl (fun T q => proj_apply W _ 6 6 rfl _ T q),
      expert_apply W (res_main_v132 W) (W (Proc.devRef .tc main_arg2)) _ _ 7 7 rfl (fun T q => proj_apply W _ 7 7 rfl _ T q),
      five_apply]
    rfl
  · rw [Fin.sum_univ_eight, zero_add]

/-- Every run of the reference ends with that value and with the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v146) = value (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans ((val3_main_v146 _).symm.trans (val3_eq _)), (h c).2⟩)
    (Cert.ReferenceIdeal.Value.run m ρ)

end Cert.RefRun

end
-- ==== Proof.Finite.lean ====
/-
  What the precondition gives: with every element of the tokens and of the router real, no router probability is the
  bottom of the extended reals.
-/
module

public import proofs.«01_k».proof.Proof.Spec
public import proofs.«01_k».proof.Pre_finite_logits_in
public import Idealize.ShloMosaic.Lib.ReduceAll

@[expose] public section

noncomputable section

namespace Cert.Finite

open Idealize.ShloMosaic Cert.Spec

/-- A number whose absolute value is below the top is real. -/
theorem real_of_abs_lt (a : EReal) (h : max a (-a) < ⊤) : ∃ r : ℝ, a = (r : EReal) := by
  obtain ⟨h1, h2⟩ := max_lt_iff.mp h
  refine ⟨a.toReal, (EReal.coe_toReal h1.ne ?_).symm⟩
  rintro rfl
  exact absurd h2 (by simp)

/-- The comparison the precondition makes, where it holds: the element is real. -/
theorem real_of_cmp (a b : EReal) (hb : b = ⊤) (h : Ideal.cmp .olt (max a (-a)) b = 1#1) : ∃ r : ℝ, a = (r : EReal) := by
  subst hb
  refine real_of_abs_lt a ?_
  by_contra hn
  simp [Ideal.cmp, hn] at h

/-- The pattern of infinity denotes the top. -/
theorem inf_bits : Ideal.ofBits .f32 0x7F800000#32 = ⊤ := by simp [Ideal.ofBits, Ideal.ieee]

instance : Subsingleton Cert.Pre_finite_logits_in.S_.Idx := ⟨fun a b => funext fun z => z.elim0⟩

section Precondition
open Cert.Pre_finite_logits_in

variable [Facts] (a0 : FVec Ideal S1x2048x1024 .f32) (a1 : FVec Ideal S1024x8 .f32) (a2 a3 : FVec Ideal S8x1024x512 .f32)
  (a4 : FVec Ideal S8x512x1024 .f32) (a5 a6 : FVec Ideal S1024x512 .f32) (a7 : FVec Ideal S512x1024 .f32)

/-- The precondition makes every element of the tokens and of the router real. -/
theorem reals (h : fn (F := Ideal) a0 a1 a2 a3 a4 a5 a6 a7 = fun _ => 1#1) :
    (∀ i, ∃ r : ℝ, a0 i = (r : EReal)) ∧ ∀ i, ∃ r : ℝ, a1 i = (r : EReal) := by
  obtain ⟨h0, h1⟩ := IntOp.andi_eq_one.1 (congrFun h fun z => z.elim0)
  exact ⟨fun i => real_of_cmp (a0 i) _ inf_bits (Host.reduce_andi_all _ _ _ _ _ h0 i),
    fun i => real_of_cmp (a1 i) _ inf_bits (Host.reduce_andi_all _ _ _ _ _ h1 i)⟩

end Precondition

variable {n : ℕ}

/-- A finite sum of reals, summed in the extended reals, is their real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The softmax of real logits is nowhere the bottom. -/
theorem soft_ne_bot (L : Fin 8 → ℝ) (e : Fin 8) : soft (fun k => (L k : EReal)) e ≠ ⊥ := by
  obtain ⟨i, hi⟩ := Top2.exists_firstMax (fun k => (L k : EReal)) (by omega)
  have hexp : ∀ k, expo (fun k => (L k : EReal)) k = (Real.exp (L k - L i) : EReal) := by
    intro k
    unfold expo top
    rw [hi.fold_max, ← EReal.coe_sub]
    rfl
  have hpos : 0 < ∑ k : Fin 8, Real.exp (L k - L i) :=
    Finset.sum_pos (fun k _ => Real.exp_pos _) Finset.univ_nonempty
  unfold soft
  simp only [hexp]
  rw [coe_sum, Ideal.div_coe hpos.ne', ← EReal.coe_mul]
  exact EReal.coe_ne_bot _

/-- The router's probabilities of a real token under a real router are nowhere the bottom. -/
theorem prob_ne_bot (x : Fin 1024 → EReal) (r : Fin 1024 → Fin 8 → EReal) (hx : ∀ k, ∃ a : ℝ, x k = (a : EReal))
    (hr : ∀ k e, ∃ a : ℝ, r k e = (a : EReal)) (e : Fin 8) : prob x r e ≠ ⊥ := by
  choose X hX using hx
  choose R hR using hr
  have hl : logit x r = fun e => ((∑ k, X k * R k e : ℝ) : EReal) := by
    funext e
    unfold logit
    rw [← coe_sum]
    exact Finset.sum_congr rfl fun k _ => by rw [hX, hR, EReal.coe_mul]
  unfold prob
  rw [hl]
  exact soft_ne_bot _ e

end Cert.Finite

end
-- ==== Proof.lean ====
/-
  The proof of `Cert.Claim`.

  The kernel's two programs end with their arguments unchanged and every counter at zero (the generated frames), and so
  does the reference, which is a straight line of host operations and declares no semaphore. The value claim names one
  array, `Spec.result`, which each side's run is shown to end with: the kernel's for any pair of experts that is the two
  most probable ones of each token (`KernelRun.run`), the reference's for the pair its sort puts first
  (`RefRun.run`). Under the precondition the probabilities are real, and the sorted pair is the two most probable.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_logits_in
public import proofs.«01_k».proof.Proof.KernelRun
public import proofs.«01_k».proof.Proof.RefRun
public import proofs.«01_k».proof.Proof.Finite

@[expose] public section

noncomputable section

namespace Cert.Proof

open Idealize.ShloMosaic Idealize.SL.Sem Cert.Spec Cert.KernelIdeal Cert.KernelRun

/-- The reference ends with its arguments unchanged and, declaring no semaphore, every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.RefRun.run m ρ)

section Shared

variable (a0 : (⟨3, ![1, 2048, 1024]⟩ : Shape).Idx → EReal) (a1 : (⟨2, ![1024, 8]⟩ : Shape).Idx → EReal)
  (a2 a3 : (⟨3, ![8, 1024, 512]⟩ : Shape).Idx → EReal) (a4 : (⟨3, ![8, 512, 1024]⟩ : Shape).Idx → EReal)
  (a5 a6 : (⟨2, ![1024, 512]⟩ : Shape).Idx → EReal) (a7 : (⟨2, ![512, 1024]⟩ : Shape).Idx → EReal)

/-- The router's probabilities of token `T`. -/
def probs (T : Fin 2048) : Fin 8 → EReal := prob (fun k => a0 (ix3 0 T k)) (fun k e => a1 (ix2 k e))

/-- The expert that a sort of token `T`'s probabilities, the largest first, puts at place `o`. -/
def place (T : Fin 2048) (o : Fin 8) : Fin 8 :=
  sortedFrom (fun x y => decide (probs a0 a1 T y < probs a0 a1 T x)) o

/-- The array both programs end with, as a function of the arguments: the two experts are the sort's first two. -/
def shared : (⟨3, ![1, 2048, 1024]⟩ : Shape).Idx → EReal :=
  result a0 a1 a2 a3 a4 a5 a6 a7 (fun T => place a0 a1 T 0) (fun T => place a0 a1 T 1)

variable {a0 a1 a2 a3 a4 a5 a6 a7}

/-- Equal arguments give equal arrays. -/
theorem shared_congr {b0 b1 b2 b3 b4 b5 b6 b7} (h0 : a0 = b0) (h1 : a1 = b1) (h2 : a2 = b2) (h3 : a3 = b3)
    (h4 : a4 = b4) (h5 : a5 = b5) (h6 : a6 = b6) (h7 : a7 = b7) :
    shared a0 a1 a2 a3 a4 a5 a6 a7 = shared b0 b1 b2 b3 b4 b5 b6 b7 := by
  subst h0 h1 h2 h3 h4 h5 h6 h7
  rfl

end Shared

/-- The two programs end with one array: the experts' weighted sum at the pair the reference's sort takes. -/
theorem algebraic : Cert.algebraic_KernelIdeal_ReferenceIdeal_pre_finite_logits_in
    (hKernelIdeal := Cert.KernelIdeal.Gen.facts) (hReferenceIdeal := Cert.ReferenceIdeal.Gen.facts)
    (hPre_finite_logits_in := Cert.Pre_finite_logits_in.Gen.facts) := by
  intro m ρ m' ρ' hpre hagree
  have hp : ∀ (c : Dev Cert.KernelIdeal.nD) (T : Fin 2048),
      Top2.Pair (probs (arg m c main_arg0) (arg m c main_arg1) T)
        (place (arg m c main_arg0) (arg m c main_arg1) T 0) (place (arg m c main_arg0) (arg m c main_arg1) T 1) := by
    intro c T
    obtain ⟨h0, h1⟩ := Cert.Finite.reals _ _ _ _ _ _ _ _ (hpre c)
    exact Top2.pair_sorted _ (Cert.Finite.prob_ne_bot _ _ (fun k => h0 _) (fun k e => h1 _)) 0 1 rfl rfl
  refine ⟨fun c => shared (arg m c main_arg0) (arg m c main_arg1) (arg m c main_arg2) (arg m c main_arg3)
    (arg m c main_arg4) (arg m c main_arg5) (arg m c main_arg6) (arg m c main_arg7), ?_, ?_⟩
  · exact (θ_run Cert.KernelIdeal.defs _ _).mono (fun r h c => ⟨h.1 c, h.2 c⟩)
      (θ_run_and (Cert.KernelRun.run m ρ _ _ hp) (Cert.KernelIdeal.Gen.unchanged m ρ))
  · refine (θ_run Cert.ReferenceIdeal.defs _ _).mono (fun r h c => ⟨(h c).1.trans ?_, (h c).2⟩) (Cert.RefRun.run m' ρ')
    obtain ⟨e0, e1, e2, e3, e4, e5, e6, e7⟩ := hagree c
    exact shared_congr e0 e1 e2 e3 e4 e5 e6 e7

/-- Everything the certificate claims. -/
theorem claim : Cert.Claim :=
  ⟨Cert.Kernel.Gen.facts, Cert.KernelIdeal.Gen.facts, Cert.ReferenceIdeal.Gen.facts, Cert.Pre_finite_logits_in.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
